-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "lr_wd" .f32 0xB727C5AC#32 ((-1 / 100000 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S14336x5120 : Shape := ⟨2, ![14336, 5120]⟩
abbrev S112x5120 : Shape := ⟨2, ![112, 5120]⟩
abbrev S_ : Shape := ⟨0, ![]⟩

class Facts : Prop where
  bcast_S_S14336x5120 : S_.BroadcastsInDim S14336x5120 (![] : Fin 0 → Fin S14336x5120.rank)
  reducesTo_S14336x5120_S_d0_1 : S14336x5120.ReducesTo [0, 1] S_
  h_S_ : 0 < S_.numel

variable [Facts]

def fn {F : FTy → Type} [FloatOps F] (main_arg0 : FVec F S14336x5120 .f32) (main_arg1 : FVec F S14336x5120 .bf16) (main_arg2 : FVec F S14336x5120 .fp8e4m3) (main_arg3 : FVec F S112x5120 .f32) (main_arg4 : FVec F S14336x5120 .fp8e5m2) (main_arg5 : FVec F S112x5120 .f32) (main_arg6 : IVec S_ 32) : IVec S_ 1 :=
  let main_v0 : FVec F S14336x5120 .f32 := Host.absf main_arg0
  let main_cst : FVec F S_ .f32 := constant S_ .f32 0x7F800000#32
  let main_v1 : FVec F S14336x5120 .f32 := broadcastInDim S14336x5120 ![] bcast_S_S14336x5120 main_cst
  let main_v2 : IVec S14336x5120 1 := cmpf .olt main_v0 main_v1
  let main_c : IVec S_ 1 := constantI S_ 1 1#1
  let main_v3 : IVec S_ 1 := (fun x v => Host.reduce IntOp.andi x v reducesTo_S14336x5120_S_d0_1 h_S_) main_v2 main_c
  let main_c_0 : IVec S_ 32 := constantI S_ 32 1#32
  let main_v4 : IVec S_ 1 := cmpi .sge main_arg6 main_c_0
  let main_v5 : IVec S_ 1 := andi main_v3 main_v4
  main_v5
-- ==== Kernel.lean ====
abbrev S14336x5120 : Shape := ⟨2, ![14336, 5120]⟩
abbrev S112x5120 : Shape := ⟨2, ![112, 5120]⟩
abbrev S_ : Shape := ⟨0, ![]⟩
abbrev S1 : Shape := ⟨1, ![1]⟩
abbrev S1024x640 : Shape := ⟨2, ![1024, 640]⟩
abbrev S8x640 : Shape := ⟨2, ![8, 640]⟩
abbrev S2x8x128 : Shape := ⟨3, ![2, 8, 128]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S255x128 : Shape := ⟨2, ![255, 128]⟩

abbrev nBuf : Space → Nat
  | .hbm => 13
  | .vmem => 23
  | .smem => 1
  | _ => 0

abbrev bufTy : (tb : Table) → Fin (tcTables nBuf tb) → BufTy
  | .hbm, ⟨0, _⟩ => ⟨S14336x5120, .f32⟩
  | .hbm, ⟨1, _⟩ => ⟨S14336x5120, .bf16⟩
  | .hbm, ⟨2, _⟩ => ⟨S14336x5120, .fp8e4m3⟩
  | .hbm, ⟨3, _⟩ => ⟨S112x5120, .f32⟩
  | .hbm, ⟨4, _⟩ => ⟨S14336x5120, .fp8e5m2⟩
  | .hbm, ⟨5, _⟩ => ⟨S112x5120, .f32⟩
  | .hbm, ⟨6, _⟩ => ⟨S_, .i32⟩
  | .hbm, ⟨7, _⟩ => ⟨S1, .i32⟩
  | .hbm, ⟨8, _⟩ => ⟨S14336x5120, .f32⟩
  | .hbm, ⟨9, _⟩ => ⟨S14336x5120, .fp8e4m3⟩
  | .hbm, ⟨10, _⟩ => ⟨S112x5120, .f32⟩
  | .hbm, ⟨11, _⟩ => ⟨S14336x5120, .fp8e5m2⟩
  | .hbm, ⟨12, _⟩ => ⟨S112x5120, .f32⟩
  | .local _ .vmem, ⟨0, _⟩ => ⟨S1024x640, .f32⟩
  | .local _ .vmem, ⟨1, _⟩ => ⟨S1024x640, .f32⟩
  | .local _ .vmem, ⟨2, _⟩ => ⟨S1024x640, .bf16⟩
  | .local _ .vmem, ⟨3, _⟩ => ⟨S1024x640, .bf16⟩
  | .local _ .vmem, ⟨4, _⟩ => ⟨S1024x640, .fp8e4m3⟩
  | .local _ .vmem, ⟨5, _⟩ => ⟨S1024x640, .fp8e4m3⟩
  | .local _ .vmem, ⟨6, _⟩ => ⟨S8x640, .f32⟩
  | .local _ .vmem, ⟨7, _⟩ => ⟨S8x640, .f32⟩
  | .local _ .vmem, ⟨8, _⟩ => ⟨S1024x640, .fp8e5m2⟩
  | .local _ .vmem, ⟨9, _⟩ => ⟨S1024x640, .fp8e5m2⟩
  | .local _ .vmem, ⟨10, _⟩ => ⟨S8x640, .f32⟩
  | .local _ .vmem, ⟨11, _⟩ => ⟨S8x640, .f32⟩
  | .local _ .vmem, ⟨12, _⟩ => ⟨S1024x640, .f32⟩
  | .local _ .vmem, ⟨13, _⟩ => ⟨S1024x640, .f32⟩
  | .local _ .vmem, ⟨14, _⟩ => ⟨S1024x640, .fp8e4m3⟩
  | .local _ .vmem, ⟨15, _⟩ => ⟨S1024x640, .fp8e4m3⟩
  | .local _ .vmem, ⟨16, _⟩ => ⟨S8x640, .f32⟩
  | .local _ .vmem, ⟨17, _⟩ => ⟨S8x640, .f32⟩
  | .local _ .vmem, ⟨18, _⟩ => ⟨S1024x640, .fp8e5m2⟩
  | .local _ .vmem, ⟨19, _⟩ => ⟨S1024x640, .fp8e5m2⟩
  | .local _ .vmem, ⟨20, _⟩ => ⟨S8x640, .f32⟩
  | .local _ .vmem, ⟨21, _⟩ => ⟨S8x640, .f32⟩
  | .local _ .vmem, ⟨22, _⟩ => ⟨S2x8x128, .f32⟩
  | .local _ .smem, ⟨0, _⟩ => ⟨S1, .i32⟩
  | _, _ => ⟨S14336x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![14, 8], ![false, false]⟩

@[reducible] def k0_t1_loop : Scf.Loop 32 :=
  let c0_i32_2 : BitVec 32 := 0#32
  let c5_i32 : BitVec 32 := 5#32
  let v5 : BitVec 32 := Scalar.addi c0_i32_2 c5_i32
  let c1_i32 : BitVec 32 := 1#32
  ⟨c0_i32_2, v5, c1_i32⟩
def k0_mult1 (k0_t1 : Fin k0_t1_loop.trips) : BitVec 32 :=
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  v8
def k0_off1 (k0_t1 : Fin k0_t1_loop.trips) : Fin 2 → Nat :=
  let c0_10 : Index := 0#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v14 : Index := Scalar.indexCast v9
  ![0, v14.toNat]
def k0_off2 (k0_t1 : Fin k0_t1_loop.trips) : Fin 2 → Nat :=
  let c0_12 : Index := 0#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v20 : Index := Scalar.indexCast v9
  ![0, v20.toNat]
def k0_off3 (k0_t1 : Fin k0_t1_loop.trips) : Fin 2 → Nat :=
  let c128 : Index := 128#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v149 : Index := Scalar.indexCast v9
  ![128, v149.toNat]
def k0_off4 (k0_t1 : Fin k0_t1_loop.trips) : Fin 2 → Nat :=
  let c1_51 : Index := 1#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v155 : Index := Scalar.indexCast v9
  ![1, v155.toNat]
def k0_off5 (k0_t1 : Fin k0_t1_loop.trips) : Fin 2 → Nat :=
  let c256 : Index := 256#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v284 : Index := Scalar.indexCast v9
  ![256, v284.toNat]
def k0_off6 (k0_t1 : Fin k0_t1_loop.trips) : Fin 2 → Nat :=
  let c2 : Index := 2#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v290 : Index := Scalar.indexCast v9
  ![2, v290.toNat]
def k0_off7 (k0_t1 : Fin k0_t1_loop.trips) : Fin 2 → Nat :=
  let c384 : Index := 384#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v419 : Index := Scalar.indexCast v9
  ![384, v419.toNat]
def k0_off8 (k0_t1 : Fin k0_t1_loop.trips) : Fin 2 → Nat :=
  let c3 : Index := 3#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v425 : Index := Scalar.indexCast v9
  ![3, v425.toNat]
def k0_off9 (k0_t1 : Fin k0_t1_loop.trips) : Fin 2 → Nat :=
  let c512 : Index := 512#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v554 : Index := Scalar.indexCast v9
  ![512, v554.toNat]
def k0_off10 (k0_t1 : Fin k0_t1_loop.trips) : Fin 2 → Nat :=
  let c4 : Index := 4#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v560 : Index := Scalar.indexCast v9
  ![4, v560.toNat]
def k0_off11 (k0_t1 : Fin k0_t1_loop.trips) : Fin 2 → Nat :=
  let c640 : Index := 640#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v689 : Index := Scalar.indexCast v9
  ![640, v689.toNat]
def k0_off12 (k0_t1 : Fin k0_t1_loop.trips) : Fin 2 → Nat :=
  let c5 : Index := 5#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v695 : Index := Scalar.indexCast v9
  ![5, v695.toNat]
def k0_off13 (k0_t1 : Fin k0_t1_loop.trips) : Fin 2 → Nat :=
  let c768 : Index := 768#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v824 : Index := Scalar.indexCast v9
  ![768, v824.toNat]
def k0_off14 (k0_t1 : Fin k0_t1_loop.trips) : Fin 2 → Nat :=
  let c6 : Index := 6#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v830 : Index := Scalar.indexCast v9
  ![6, v830.toNat]
def k0_off15 (k0_t1 : Fin k0_t1_loop.trips) : Fin 2 → Nat :=
  let c896 : Index := 896#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v959 : Index := Scalar.indexCast v9
  ![896, v959.toNat]
def k0_off16 (k0_t1 : Fin k0_t1_loop.trips) : Fin 2 → Nat :=
  let c7 : Index := 7#32
  let c0_i32_5 : BitVec 32 := 0#32
  let c0_i32_2 : BitVec 32 := 0#32
  let c1_i32 : BitVec 32 := 1#32
  let arg15 : BitVec 32 := Scf.iv c0_i32_2 c1_i32 k0_t1
  let c1_i32_4 : BitVec 32 := 1#32
  let v6 : BitVec 32 := Scalar.muli arg15 c1_i32_4
  let v7 : BitVec 32 := Scalar.addi c0_i32_5 v6
  let c128_i32 : BitVec 32 := 128#32
  let v8 : BitVec 32 := Scalar.muli v7 c128_i32
  let v9 : BitVec 32 := v8
  let v965 : Index := Scalar.indexCast v9
  ![7, v965.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x640 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x640 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x640 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "lr_wd" => some ((-1 / 100000 : ℝ) : EReal)
  | _ => none
-- ==== ReferenceIdeal.lean ====
abbrev S14336x5120 : Shape := ⟨2, ![14336, 5120]⟩
abbrev S112x5120 : Shape := ⟨2, ![112, 5120]⟩
abbrev S_ : Shape := ⟨0, ![]⟩
abbrev S1 : Shape := ⟨1, ![1]⟩
abbrev S112x128x5120 : Shape := ⟨3, ![112, 128, 5120]⟩
abbrev S112x1x5120 : Shape := ⟨3, ![112, 1, 5120]⟩

abbrev nBuf : Space → Nat
  | .hbm => 13
  | .vmem => 11
  | .smem => 1
  | _ => 0

abbrev bufTy : (tb : Table) → Fin (tcTables nBuf tb) → BufTy
  | .hbm, ⟨0, _⟩ => ⟨S14336x5120, .f32⟩
  | .hbm, ⟨1, _⟩ => ⟨S14336x5120, .bf16⟩
  | .hbm, ⟨2, _⟩ => ⟨S14336x5120, .fp8e4m3⟩
  | .hbm, ⟨3, _⟩ => ⟨S112x5120, .f32⟩
  | .hbm, ⟨4, _⟩ => ⟨S14336x5120, .fp8e5m2⟩
  | .hbm, ⟨5, _⟩ => ⟨S112x5120, .f32⟩
  | .hbm, ⟨6, _⟩ => ⟨S_, .i32⟩
  | .hbm, ⟨7, _⟩ => ⟨S1, .i32⟩
  | .hbm, ⟨8, _⟩ => ⟨S14336x5120, .f32⟩
  | .hbm, ⟨9, _⟩ => ⟨S14336x5120, .fp8e4m3⟩
  | .hbm, ⟨10, _⟩ => ⟨S112x5120, .f32⟩
  | .hbm, ⟨11, _⟩ => ⟨S14336x5120, .fp8e5m2⟩
  | .hbm, ⟨12, _⟩ => ⟨S112x5120, .f32⟩
  | .local _ .vmem, ⟨0, _⟩ => ⟨S14336x5120, .f32⟩
  | .local _ .vmem, ⟨1, _⟩ => ⟨S14336x5120, .bf16⟩
  | .local _ .vmem, ⟨2, _⟩ => ⟨S14336x5120, .fp8e4m3⟩
  | .local _ .vmem, ⟨3, _⟩ => ⟨S112x5120, .f32⟩
  | .local _ .vmem, ⟨4, _⟩ => ⟨S14336x5120, .fp8e5m2⟩
  | .local _ .vmem, ⟨5, _⟩ => ⟨S112x5120, .f32⟩
  | .local _ .vmem, ⟨6, _⟩ => ⟨S14336x5120, .f32⟩
  | .local _ .vmem, ⟨7, _⟩ => ⟨S14336x5120, .fp8e4m3⟩
  | .local _ .vmem, ⟨8, _⟩ => ⟨S112x5120, .f32⟩
  | .local _ .vmem, ⟨9, _⟩ => ⟨S14336x5120, .fp8e5m2⟩
  | .local _ .vmem, ⟨10, _⟩ => ⟨S112x5120, .f32⟩
  | .local _ .smem, ⟨0, _⟩ => ⟨S1, .i32⟩
  | _, _ => ⟨S14336x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "log_2" => some ((Real.log 2 : ℝ) : EReal)
  | "lr" => some ((-1 / 1000 : ℝ) : EReal)
  | "wd" => some ((1 / 100 : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x5120 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S112x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14336x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14336x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S112x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S14336x5120 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S112x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Scale.lean ====
/-
  THE SCALE OF A GROUP, as scalar arithmetic at the ideal values.

  The kernel reads the exponent field of `r = (largest absolute value of the group) / (largest code)` by counting the
  powers of two that `r` reaches (`kField`), turns the count into the exponent field of the scale (`kWord`), and takes
  scale and inverse scale as the floats of that field (`kScale`, `kInv`). The reference writes the exponent as
  `floor (log r / log 2) + 1` (`rExp`) and takes the two powers of two (`rScale`, `rInv`). For every `r ≥ 0`, infinity
  included, the two pairs are equal (`kScale_eq`, `kInv_eq`).
-/
module

public import Idealize.ShloMosaic.Lib.Pointwise
public import Idealize.ShloMosaic.Lib.IndicatorCount
public import Idealize.ShloMosaic.PureOps.Ideal

@[expose] public section

noncomputable section

namespace Cert.Adam

open Idealize.ShloMosaic

/-- The float whose exponent field is the word `w` and whose other bits are zero. -/
abbrev pow2 (w : BitVec 32) : EReal := Ideal.ofBits .f32 (IntOp.shli .vector w 23#32)

/-- The word the kernel compares `r` with in row `k` of its table: exponent field `k + 1`, at most 253. -/
abbrev bound (k : Fin 255) : BitVec 32 := IntOp.minsi (IntOp.addi (BitVec.ofNat 32 k.val) 1#32) 253#32

/-- The kernel's exponent field of `r`: how many rows of the table `r` reaches. -/
def kField (r : EReal) : BitVec 32 :=
  (Finset.univ : Finset (Fin 255)).fold IntOp.addi 0#32 fun k => (Ideal.cmp .oge r (pow2 (bound k))).setWidth 32

/-- The exponent field of the scale: 127 (the scale 1) where the field is 0 or 255, one more than the field elsewhere. -/
def kWord (r : EReal) : BitVec 32 :=
  Scalar.select (IntOp.ori (IntOp.cmpi .eq (kField r) 0#32) (IntOp.cmpi .eq (kField r) 255#32)) 127#32
    (IntOp.addi (kField r) 1#32)

/-- The kernel's scale. -/
def kScale (r : EReal) : EReal := pow2 (kWord r)

/-- The kernel's inverse scale. -/
def kInv (r : EReal) : EReal := pow2 (IntOp.subi 254#32 (kWord r))

/-- The reference's exponent: 0 below the smallest normal number and from `2 ^ 126` on, `floor (log2 r) + 1` between. -/
def rExp (r : EReal) : EReal :=
  Scalar.select (IntOp.ori (Ideal.cmp .olt r (Ideal.ofBits .f32 0x00800000#32)) (Ideal.cmp .oge r (Ideal.ofBits .f32 0x7E800000#32)))
    (0 : EReal) (Ideal.liftRound Int.floor (Ideal.div (Ideal.log r) ((Real.log 2 : ℝ) : EReal)) + 1)

/-- The reference's scale. -/
def rScale (r : EReal) : EReal := Ideal.exp2 (rExp r)

/-- The reference's inverse scale. -/
def rInv (r : EReal) : EReal := Ideal.exp2 (0 - rExp r)

/-- Shifting an exponent field into place: the parts of the word. -/
theorem word_parts : ∀ n : Fin 255,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

/-- The float with exponent field `n`, `0 < n < 255`, is `2 ^ (n - 127)`. -/
theorem pow2_ofNat (n : ℕ) (h0 : 0 < n) (h1 : n < 255) :
    pow2 (BitVec.ofNat 32 n) = (((2 : ℝ) ^ ((n : ℤ) - 127) : ℝ) : EReal) := by
  obtain ⟨ha, hb, hc⟩ := word_parts ⟨n, h1⟩
  dsimp only at ha hb hc
  have e : ((n : ℤ) - (2 ^ (8 - 1) - 1) - (23 : ℕ)) = ((n : ℤ) - 127) - 23 := by norm_num
  have r : ((2 : ℝ) ^ 23 + ((0 : ℕ) : ℝ)) * (2 : ℝ) ^ (((n : ℤ) - 127) - 23) = (2 : ℝ) ^ ((n : ℤ) - 127) := by
    rw [zpow_sub₀ (by norm_num : (2 : ℝ) ≠ 0)]
    norm_num
    ring
  rw [← r]
  unfold pow2 Ideal.ofBits Ideal.ieee
  simp only [Nat.reduceAdd, ha, hb, hc]
  rw [if_neg (by omega), if_neg (by omega), e]
  simp only [Bool.false_eq_true, if_false, one_mul]
  refine congrArg (fun x : ℝ => ((x * (2 : ℝ) ^ ((n : ℤ) - 127 - 23) : ℝ) : EReal)) ?_
  norm_num

/-- The bound of row `k` is the word of `min (k + 1) 253`. -/
theorem bound_eq : ∀ k : Fin 255, bound k = BitVec.ofNat 32 (min (k.val + 1) 253) := by decide +kernel

/-- Row `k` compares with `2 ^ (min (k + 1) 253 - 127)`. -/
theorem pow2_bound (k : Fin 255) :
    pow2 (bound k) = (((2 : ℝ) ^ (((min (k.val + 1) 253 : ℕ) : ℤ) - 127) : ℝ) : EReal) := by
  rw [bound_eq]; exact pow2_ofNat _ (by omega) (by omega)

/-- The field is a count. -/
theorem kField_eq (r : EReal) :
    kField r = BitVec.ofNat 32 ((Finset.univ : Finset (Fin 255)).filter fun k => pow2 (bound k) ≤ r).card := by
  unfold kField
  rw [IndicatorCount.fold_addi_setWidth_eq_card]
  congr 2
  ext k
  rw [Finset.mem_filter, Finset.mem_filter]
  refine and_congr_right fun _ => ?_
  show BitVec.ofBool (decide (pow2 (bound k) ≤ r)) = 1#1 ↔ pow2 (bound k) ≤ r
  by_cases h : pow2 (bound k) ≤ r
  · simp only [h, decide_true, iff_true]; rfl
  · simp only [h, decide_false, iff_false]; decide

/-- How many of the rows come before `M`. -/
theorem card_lt (M : ℕ) (h : M ≤ 255) : ((Finset.univ : Finset (Fin 255)).filter fun k => k.val < M).card = M := by
  have e : ((Finset.univ : Finset (Fin 255)).filter fun k => k.val < M).card
      = (((Finset.univ : Finset (Fin 255)).filter fun k => k.val < M).map Fin.valEmbedding).card := (Finset.card_map _).symm
  have e' : ((Finset.univ : Finset (Fin 255)).filter fun k => k.val < M).map Fin.valEmbedding = Finset.range M := by
    ext x
    simp only [Finset.mem_map, Finset.mem_filter, Finset.mem_univ, true_and, Fin.valEmbedding_apply, Finset.mem_range]
    exact ⟨by rintro ⟨a, ha, rfl⟩; exact ha, fun hx => ⟨⟨x, by omega⟩, hx, rfl⟩⟩
  rw [e, e', Finset.card_range]

theorem smallest_eq : Ideal.ofBits .f32 0x00800000#32 = (((2 : ℝ) ^ (-126 : ℤ) : ℝ) : EReal) :=
  by
  have h := pow2_ofNat 1 (by norm_num) (by norm_num)
  exact h

theorem large_eq : Ideal.ofBits .f32 0x7E800000#32 = (((2 : ℝ) ^ (126 : ℤ) : ℝ) : EReal) :=
  by
  have h := pow2_ofNat 253 (by norm_num) (by norm_num)
  exact h

/-- What both sides need of `r ≥ 0`: it is out of range, or it has an exponent `e` in `[-126, 125]`. -/
theorem cases_r (r : EReal) (h0 : 0 ≤ r) :
    r < (((2 : ℝ) ^ (-126 : ℤ) : ℝ) : EReal) ∨ (((2 : ℝ) ^ (126 : ℤ) : ℝ) : EReal) ≤ r
    ∨ ∃ (x : ℝ) (e : ℤ), r = (x : EReal) ∧ 0 < x ∧ -126 ≤ e ∧ e ≤ 125 ∧ (2 : ℝ) ^ e ≤ x ∧ x < (2 : ℝ) ^ (e + 1)
        ∧ ⌊Real.log x / Real.log 2⌋ = e := by
  by_cases ha : r < (((2 : ℝ) ^ (-126 : ℤ) : ℝ) : EReal)
  · exact .inl ha
  by_cases hb : (((2 : ℝ) ^ (126 : ℤ) : ℝ) : EReal) ≤ r
  · exact .inr (.inl hb)
  refine .inr (.inr ?_)
  push Not at ha hb
  induction r with
  | bot => simp at h0
  | top => simp at hb
  | coe x =>
    rw [EReal.coe_le_coe_iff] at ha
    rw [EReal.coe_lt_coe_iff] at hb
    have hx : 0 < x := lt_of_lt_of_le (by positivity) ha
    have hl2 : 0 < Real.log 2 := Real.log_pos (by norm_num)
    have key : ∀ n : ℤ, (n : ℝ) ≤ Real.log x / Real.log 2 ↔ (2 : ℝ) ^ n ≤ x := fun n => by
      rw [le_div_iff₀ hl2, ← Real.log_zpow, Real.log_le_log_iff (by positivity) hx]
    have key' : ∀ n : ℤ, Real.log x / Real.log 2 < (n : ℝ) ↔ x < (2 : ℝ) ^ n := fun n => by
      rw [← not_le, key, not_le]
    refine ⟨x, ⌊Real.log x / Real.log 2⌋, rfl, hx, ?_, ?_, ?_, ?_, rfl⟩
    · rw [Int.le_floor, key]; exact ha
    · have : ⌊Real.log x / Real.log 2⌋ < 126 := by
        rw [Int.floor_lt, key']; exact hb
      omega
    · rw [← key]; exact Int.floor_le _
    · rw [← key']; push_cast; exact Int.lt_floor_add_one _

/-- Out of range on the small side the field is 0. -/
theorem kField_small (r : EReal) (h : r < (((2 : ℝ) ^ (-126 : ℤ) : ℝ) : EReal)) : kField r = 0#32 := by
  rw [kField_eq, Finset.filter_false_of_mem]
  · rfl
  intro k _ hk
  rw [pow2_bound] at hk
  have := lt_of_le_of_lt hk h
  rw [EReal.coe_lt_coe_iff, zpow_lt_zpow_iff_right₀ (by norm_num)] at this
  omega

/-- Out of range on the large side the field is 255. -/
theorem kField_large (r : EReal) (h : (((2 : ℝ) ^ (126 : ℤ) : ℝ) : EReal) ≤ r) : kField r = 255#32 := by
  rw [kField_eq, Finset.filter_true_of_mem]
  · simp
  intro k _
  rw [pow2_bound]
  refine le_trans ?_ h
  rw [EReal.coe_le_coe_iff]
  exact zpow_le_zpow_right₀ (by norm_num) (by omega)

/-- In range the field is `e + 127`. -/
theorem kField_mid (x : ℝ) (e : ℤ) (M : ℕ) (hM : (M : ℤ) = e + 127) (h0 : -126 ≤ e) (h1 : e ≤ 125) (hl : (2 : ℝ) ^ e ≤ x)
    (hu : x < (2 : ℝ) ^ (e + 1)) : kField (x : EReal) = BitVec.ofNat 32 M := by
  rw [kField_eq]
  conv_rhs => rw [← card_lt M (by omega)]
  congr 2
  ext k
  simp only [Finset.mem_filter, Finset.mem_univ, true_and]
  rw [pow2_bound, EReal.coe_le_coe_iff]
  constructor
  · intro h
    have := lt_of_le_of_lt h hu
    rw [zpow_lt_zpow_iff_right₀ (by norm_num)] at this
    omega
  · intro h
    refine le_trans ?_ hl
    exact zpow_le_zpow_right₀ (by norm_num) (by omega)

/-- The scale's word at a field `M` in `[1, 252]`. -/
theorem word_mid : ∀ M : Fin 253, 0 < M.val →
    Scalar.select (IntOp.ori (IntOp.cmpi .eq (BitVec.ofNat 32 M.val) 0#32) (IntOp.cmpi .eq (BitVec.ofNat 32 M.val) 255#32)) 127#32
      (IntOp.addi (BitVec.ofNat 32 M.val) 1#32) = BitVec.ofNat 32 (M.val + 1)
    ∧ IntOp.subi 254#32 (BitVec.ofNat 32 (M.val + 1)) = BitVec.ofNat 32 (253 - M.val) := by
  decide +kernel

/-- Out of range: the reference's exponent is 0. -/
theorem rExp_out (r : EReal) (h : r < (((2 : ℝ) ^ (-126 : ℤ) : ℝ) : EReal) ∨ (((2 : ℝ) ^ (126 : ℤ) : ℝ) : EReal) ≤ r) :
    rExp r = 0 := by
  unfold rExp
  rw [smallest_eq, large_eq]
  have hs : IntOp.ori (Ideal.cmp .olt r (((2 : ℝ) ^ (-126 : ℤ) : ℝ) : EReal)) (Ideal.cmp .oge r (((2 : ℝ) ^ (126 : ℤ) : ℝ) : EReal)) = 1#1 := by
    rcases h with h | h
    · simp only [Ideal.cmp, decide_eq_true h]
      cases decide ((((2 : ℝ) ^ (126 : ℤ) : ℝ) : EReal) ≤ r) <;> rfl
    · simp only [Ideal.cmp, decide_eq_true h]
      cases decide (r < (((2 : ℝ) ^ (-126 : ℤ) : ℝ) : EReal)) <;> rfl
  rw [hs]
  rfl

/-- In range: the reference's exponent is `e + 1`. -/
theorem rExp_mid (x : ℝ) (e : ℤ) (hx : 0 < x) (h0 : -126 ≤ e) (h1 : e ≤ 125) (hl : (2 : ℝ) ^ e ≤ x)
    (hu : x < (2 : ℝ) ^ (e + 1)) (hf : ⌊Real.log x / Real.log 2⌋ = e) : rExp (x : EReal) = ((e + 1 : ℝ) : EReal) := by
  have hl2 : Real.log 2 ≠ 0 := (Real.log_pos (by norm_num)).ne'
  have ha : ¬ x < (2 : ℝ) ^ (-126 : ℤ) := not_lt.mpr ((zpow_le_zpow_right₀ (by norm_num) h0).trans hl)
  have hb : ¬ (2 : ℝ) ^ (126 : ℤ) ≤ x :=
    not_le.mpr (hu.trans_le (zpow_le_zpow_right₀ (by norm_num) (by omega)))
  unfold rExp
  rw [smallest_eq, large_eq]
  have hs : IntOp.ori (Ideal.cmp .olt (x : EReal) (((2 : ℝ) ^ (-126 : ℤ) : ℝ) : EReal)) (Ideal.cmp .oge (x : EReal) (((2 : ℝ) ^ (126 : ℤ) : ℝ) : EReal)) = 0#1 := by
    simp only [Ideal.cmp, EReal.coe_lt_coe_iff, EReal.coe_le_coe_iff, decide_eq_false ha, decide_eq_false hb]
    rfl
  rw [hs]
  rw [Ideal.log_coe, if_neg (not_le.mpr hx), Ideal.div_coe hl2, ← EReal.coe_mul, Ideal.liftRound_coe,
    mul_one_div, hf]
  show ((e : ℝ) : EReal) + 1 = _
  rw [EReal.coe_add, EReal.coe_one]

/-- THE TWO SCALES AND THE TWO INVERSES ARE EQUAL. -/
theorem scale_inv_eq (r : EReal) (h0 : 0 ≤ r) : kScale r = rScale r ∧ kInv r = rInv r := by
  have one : pow2 127#32 = 1 := (pow2_ofNat 127 (by norm_num) (by norm_num)).trans (by norm_num)
  have out : ∀ f : BitVec 32, f = 0#32 ∨ f = 255#32 →
      Scalar.select (IntOp.ori (IntOp.cmpi .eq f 0#32) (IntOp.cmpi .eq f 255#32)) 127#32 (IntOp.addi f 1#32) = 127#32 := by
    rintro f (rfl | rfl) <;> decide
  have main_out : (kField r = 0#32 ∨ kField r = 255#32) → rExp r = 0 → kScale r = rScale r ∧ kInv r = rInv r := by
    intro hf he
    unfold kScale kInv rScale rInv kWord
    rw [out _ hf, he, show IntOp.subi 254#32 127#32 = 127#32 from by decide, one, sub_zero,
      show Ideal.exp2 0 = 1 from by rw [← EReal.coe_zero, Ideal.exp2_coe]; simp]
    exact ⟨rfl, rfl⟩
  rcases cases_r r h0 with h | h | ⟨x, e, rfl, hx, ha, hb, hl, hu, hf⟩
  · exact main_out (.inl (kField_small r h)) (rExp_out r (.inl h))
  · exact main_out (.inr (kField_large r h)) (rExp_out r (.inr h))
  · obtain ⟨M, hM⟩ : ∃ M : ℕ, (M : ℤ) = e + 127 := ⟨(e + 127).toNat, by omega⟩
    obtain ⟨hw, hi⟩ := word_mid ⟨M, by omega⟩ (by show 0 < M; omega)
    dsimp only at hw hi
    have hk : kWord (x : EReal) = BitVec.ofNat 32 (M + 1) := by
      unfold kWord; rw [kField_mid x e M hM ha hb hl hu]; exact hw
    unfold kScale kInv rScale rInv
    rw [hk, hi, rExp_mid x e hx ha hb hl hu hf, pow2_ofNat _ (by omega) (by omega), pow2_ofNat _ (by omega) (by omega),
      ← EReal.coe_zero, ← EReal.coe_sub, Ideal.exp2_coe, Ideal.exp2_coe]
    constructor
    · congr 1
      have : (e : ℝ) + 1 = ((e + 1 : ℤ) : ℝ) := by push_cast; ring
      show _ = (2 : ℝ) ^ ((e : ℝ) + 1)
      rw [this, Real.rpow_intCast]
      congr 1; push_cast; omega
    · congr 1
      have : (0 : ℝ) - ((e : ℝ) + 1) = ((-(e + 1) : ℤ) : ℝ) := by push_cast; ring
      show _ = (2 : ℝ) ^ ((0 : ℝ) - ((e : ℝ) + 1))
      rw [this, Real.rpow_intCast]
      congr 1; rw [Nat.cast_sub (by omega)]; push_cast; omega

end Cert.Adam

end
-- ==== Proof.Delta.lean ====
/-
  THE PARAMETER UPDATE, as scalar arithmetic at the ideal values.

  The kernel folds the learning rate and the first bias correction into two coefficients (`kOne`, `kTwo`) and multiplies
  by one reciprocal (`kDelta`). The reference divides by the two bias corrections and takes the root (`rDelta`). For a
  step of at least 1 and a finite parameter the two are equal, whatever the two moments are (`delta_eq`).
-/
module

public import Idealize.ShloMosaic.Lib.Pointwise
public import Idealize.ShloMosaic.PureOps.Ideal

@[expose] public section

noncomputable section

namespace Cert.Adam

open Idealize.ShloMosaic

/-- `1 - beta1 ^ step`, with `beta1` the float nearest to 0.9. -/
def corrOne (t : BitVec 32) : EReal :=
  Ideal.ofBits .f32 0x3F800000#32 - Ideal.pow (Ideal.ofBits .f32 0x3F666666#32) (((t.toInt : ℝ) : EReal))

/-- `1 - beta2 ^ step`, with `beta2` the float nearest to 0.999. -/
def corrTwo (t : BitVec 32) : EReal :=
  Ideal.ofBits .f32 0x3F800000#32 - Ideal.pow (Ideal.ofBits .f32 0x3F7FBE77#32) (((t.toInt : ℝ) : EReal))

/-- The kernel's first coefficient: `-1000 (1 - beta1 ^ step) / sqrt (1 - beta2 ^ step)`. -/
def kOne (t : BitVec 32) : EReal := corrOne t * Ideal.ofBits .f32 0xC47A0000#32 * Ideal.rsqrt (corrTwo t)

/-- The kernel's second coefficient: `-1000 (1 - beta1 ^ step) epsilon`. -/
def kTwo (t : BitVec 32) : EReal := corrOne t * Ideal.ofBits .f32 0xC47A0000#32 * Ideal.ofBits .f32 0x322BCC77#32

/-- The kernel's update of one parameter `p` from its two moments and the two coefficients. -/
def kDelta (c1 c2 m v p : EReal) : EReal :=
  m * Ideal.div 1 (c1 * Ideal.div 1 (Ideal.rsqrt v) + c2) + ((-1 / 100000 : ℝ) : EReal) * p

/-- The reference's update of one parameter `p` from its two moments. -/
def rDelta (t : BitVec 32) (m v p : EReal) : EReal :=
  ((-1 / 1000 : ℝ) : EReal) * (Ideal.div (Ideal.div m (corrOne t))
      (Ideal.sqrt (max (Ideal.div v (corrTwo t)) 0) + Ideal.ofBits .f32 0x322BCC77#32) + ((1 / 100 : ℝ) : EReal) * p)

/-- `-1000`. -/
theorem gain_eq : Ideal.ofBits .f32 0xC47A0000#32 = ((-1000 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

/-- The epsilon is a positive real number. -/
theorem eps_eq : ∃ e : ℝ, 0 < e ∧ Ideal.ofBits .f32 0x322BCC77#32 = (e : EReal) := by
  refine ⟨_, ?_, by simp [Ideal.ofBits, Ideal.ieee, -EReal.coe_mul]; rfl⟩
  norm_num

/-- Each beta is a real number between 0 and 1. -/
theorem beta1_eq : ∃ b : ℝ, 0 < b ∧ b < 1 ∧ Ideal.ofBits .f32 0x3F666666#32 = (b : EReal) := by
  refine ⟨_, ?_, ?_, by simp [Ideal.ofBits, Ideal.ieee, -EReal.coe_mul]; rfl⟩ <;> norm_num

theorem beta2_eq : ∃ b : ℝ, 0 < b ∧ b < 1 ∧ Ideal.ofBits .f32 0x3F7FBE77#32 = (b : EReal) := by
  refine ⟨_, ?_, ?_, by simp [Ideal.ofBits, Ideal.ieee, -EReal.coe_mul]; rfl⟩ <;> norm_num

/-- A bias correction of a step of at least 1 is a positive real number. -/
theorem corr_pos {b : ℝ} (h0 : 0 < b) (h1 : b < 1) (t : BitVec 32) (ht : 1 ≤ t.toInt) :
    ∃ c : ℝ, 0 < c ∧ ((1 : ℝ) : EReal) - Ideal.pow (b : EReal) (((t.toInt : ℝ) : EReal)) = (c : EReal) := by
  refine ⟨1 - b ^ (t.toInt : ℝ), ?_, ?_⟩
  · have : b ^ (t.toInt : ℝ) < 1 := Real.rpow_lt_one h0.le h1 (by exact_mod_cast (by omega : 0 < t.toInt))
    linarith
  · rw [Ideal.pow_coe_coe, ← EReal.coe_sub]; rfl

theorem corrOne_pos (t : BitVec 32) (ht : 1 ≤ t.toInt) : ∃ c : ℝ, 0 < c ∧ corrOne t = (c : EReal) := by
  obtain ⟨b, h0, h1, e⟩ := beta1_eq
  unfold corrOne; rw [e, one_eq]; exact corr_pos h0 h1 t ht

theorem corrTwo_pos (t : BitVec 32) (ht : 1 ≤ t.toInt) : ∃ c : ℝ, 0 < c ∧ corrTwo t = (c : EReal) := by
  obtain ⟨b, h0, h1, e⟩ := beta2_eq
  unfold corrTwo; rw [e, one_eq]; exact corr_pos h0 h1 t ht

/-- Where the denominator is a positive real number `d`. -/
theorem delta_real (m : EReal) (b d p : ℝ) (hb : 0 < b) (hd : 0 < d) :
    m * Ideal.div 1 (((-1000 * b * d : ℝ)) : EReal) + ((-1 / 100000 : ℝ) : EReal) * (p : EReal)
      = ((-1 / 1000 : ℝ) : EReal) * (Ideal.div (Ideal.div m (b : EReal)) (d : EReal) + ((1 / 100 : ℝ) : EReal) * (p : EReal)) := by
  have hn : (-1000 * b * d : ℝ) < 0 := by nlinarith [mul_pos hb hd]
  rw [Ideal.div_coe hn.ne, Ideal.div_coe hb.ne', Ideal.div_coe hd.ne', one_mul, ← EReal.coe_mul, ← EReal.coe_mul]
  have hb' : 0 < 1 / b := by positivity
  have hd' : 0 < 1 / d := by positivity
  have hn' : 1 / (-1000 * b * d) < 0 := one_div_neg.mpr hn
  induction m with
  | bot =>
    rw [EReal.bot_mul_coe_of_neg hn', EReal.bot_mul_coe_of_pos hb', EReal.bot_mul_coe_of_pos hd', EReal.bot_add,
      EReal.coe_mul_bot_of_neg (by norm_num), EReal.top_add_coe]
  | top =>
    rw [EReal.top_mul_coe_of_neg hn', EReal.top_mul_coe_of_pos hb', EReal.top_mul_coe_of_pos hd', EReal.top_add_coe,
      EReal.coe_mul_top_of_neg (by norm_num), EReal.bot_add]
  | coe m =>
    rw [← EReal.coe_mul, ← EReal.coe_mul, ← EReal.coe_mul, ← EReal.coe_add, ← EReal.coe_add, ← EReal.coe_mul]
    congr 1
    field_simp
    ring

/-- THE TWO UPDATES ARE EQUAL. -/
theorem delta_eq (t : BitVec 32) (ht : 1 ≤ t.toInt) (m v : EReal) (p : ℝ) :
    kDelta (kOne t) (kTwo t) m v (p : EReal) = rDelta t m v (p : EReal) := by
  obtain ⟨b1, hb1, e1⟩ := corrOne_pos t ht
  obtain ⟨b2, hb2, e2⟩ := corrTwo_pos t ht
  obtain ⟨e, he, ee⟩ := eps_eq
  have hs2 : 0 < √b2 := Real.sqrt_pos.mpr hb2
  unfold kDelta rDelta kOne kTwo
  rw [e1, e2, ee, gain_eq, Ideal.rsqrt_coe, if_neg (not_lt.mpr hb2.le), if_neg hb2.ne', Ideal.div_coe (x := v) hb2.ne',
    ← EReal.coe_mul, ← EReal.coe_mul, ← EReal.coe_mul]
  have hk1 : b1 * -1000 * (√b2)⁻¹ < 0 := by
    have : 0 < b1 * (√b2)⁻¹ := by positivity
    nlinarith
  have hb2' : 0 < 1 / b2 := by positivity
  have small : ∀ v : EReal, Ideal.div 1 (Ideal.rsqrt v) = 0 → max (v * ((1 / b2 : ℝ) : EReal)) 0 = 0 →
      m * Ideal.div 1 (((b1 * -1000 * (√b2)⁻¹ : ℝ) : EReal) * Ideal.div 1 (Ideal.rsqrt v) + ((b1 * -1000 * e : ℝ) : EReal))
          + ((-1 / 100000 : ℝ) : EReal) * (p : EReal)
        = ((-1 / 1000 : ℝ) : EReal) * (Ideal.div (Ideal.div m (b1 : EReal))
            (Ideal.sqrt (max (v * ((1 / b2 : ℝ) : EReal)) 0) + (e : EReal)) + ((1 / 100 : ℝ) : EReal) * (p : EReal)) := by
    intro v h1 h2
    rw [h1, h2, mul_zero, zero_add, show Ideal.sqrt 0 = 0 from by
      rw [← EReal.coe_zero, Ideal.sqrt_coe, if_neg (lt_irrefl _), Real.sqrt_zero], zero_add,
      show (b1 * -1000 * e : ℝ) = -1000 * b1 * e by ring]
    exact delta_real m b1 e p hb1 he
  induction v with
  | bot =>
    apply small
    · rw [Ideal.rsqrt_bot]; simp [Ideal.div]
    · rw [EReal.bot_mul_coe_of_pos hb2']; simp
  | top =>
    rw [Ideal.rsqrt_top, EReal.top_mul_coe_of_pos hb2']
    have h0 : Ideal.div 1 0 = ⊤ := by simp [Ideal.div]
    rw [h0, EReal.coe_mul_top_of_neg hk1, EReal.bot_add]
    have hbot : Ideal.div 1 ⊥ = 0 := by simp [Ideal.div]
    rw [hbot, mul_zero, zero_add, max_eq_left (le_top), Ideal.sqrt_top, EReal.top_add_coe]
    have htop : ∀ x : EReal, Ideal.div x ⊤ = 0 := fun x => by simp [Ideal.div]
    rw [htop, zero_add, ← EReal.coe_mul, ← EReal.coe_mul, ← EReal.coe_mul]
    congr 1; ring
  | coe v =>
    rcases lt_trichotomy v 0 with hv | hv | hv
    · apply small
      · rw [Ideal.rsqrt_coe, if_pos hv]; simp [Ideal.div]
      · rw [← EReal.coe_mul, ← EReal.coe_zero, max_eq_right]
        rw [EReal.coe_le_coe_iff]; exact (mul_neg_of_neg_of_pos hv hb2').le
    · subst hv
      apply small
      · rw [Ideal.rsqrt_coe, if_neg (lt_irrefl _), if_pos rfl]; simp [Ideal.div]
      · rw [EReal.coe_zero, zero_mul, max_self]
    · have hsv : 0 < √v := Real.sqrt_pos.mpr hv
      have hd : 0 < √v * (√b2)⁻¹ + e := by positivity
      rw [Ideal.rsqrt_coe, if_neg (not_lt.mpr hv.le), if_neg hv.ne', Ideal.div_coe (inv_ne_zero hsv.ne'), one_mul,
        ← EReal.coe_mul, ← EReal.coe_add, ← EReal.coe_mul v, ← EReal.coe_zero, max_eq_left
          (EReal.coe_le_coe_iff.mpr (by positivity)), Ideal.sqrt_coe, if_neg (not_lt.mpr (by positivity)), ← EReal.coe_add]
      have hr : √(v * (1 / b2)) = √v * (√b2)⁻¹ := by rw [Real.sqrt_mul hv.le, one_div, Real.sqrt_inv]
      rw [hr, show b1 * -1000 * (√b2)⁻¹ * (1 / (√v)⁻¹) + b1 * -1000 * e = -1000 * b1 * (√v * (√b2)⁻¹ + e) by
        rw [one_div, inv_inv]; ring]
      exact delta_real m b1 _ p hb1 hd

end Cert.Adam

end
-- ==== Proof.Formula.lean ====
/-
  THE STEP OF ONE GROUP, as scalar arithmetic at the ideal values.

  A group is 128 rows of one column that share one scale. Below, `g`, `mc`, `vc`, `p` are a group's gradient, stored codes of
  the two moments and parameter, as functions of the row; `ms` and `vs` are its two stored scales. The new moments are
  `newM`, `newV`; what the quantiser divides by is decided by `ratioM`, `ratioV`; the new codes are `codeM`, `codeV` of a
  moment and an inverse scale.
-/
module

public import proofs.«01_k».proof.Proof.Scale
public import proofs.«01_k».proof.Proof.Delta

@[expose] public section

noncomputable section

namespace Cert.Adam

open Idealize.ShloMosaic

/-- A group's new first moment: 0.9 of the stored one and 0.1 of the gradient. -/
def newM (g mc : Fin 128 → EReal) (ms : EReal) (r : Fin 128) : EReal :=
  Ideal.ofBits .f32 0x3F666666#32 * (mc r * ms) + Ideal.ofBits .f32 0x3DCCCCCD#32 * g r

/-- A group's new second moment: 0.999 of the stored one and 0.001 of the gradient's square. -/
def newV (g vc : Fin 128 → EReal) (vs : EReal) (r : Fin 128) : EReal :=
  Ideal.ofBits .f32 0x3F7FBE77#32 * (vc r * vs) + Ideal.ofBits .f32 0x3A83126F#32 * (g r * g r)

/-- The largest absolute value of a group. -/
def top (f : Fin 128 → EReal) : EReal :=
  (Finset.univ : Finset (Fin 128)).fold max (Ideal.ofBits .f32 0xFF800000#32) fun r => max (f r) (-(f r))

/-- The largest absolute value over the largest code of the first moment, 448. -/
def ratioM (f : Fin 128 → EReal) : EReal := top f * Ideal.ofBits .f32 0x3B124925#32

/-- The largest absolute value over the largest code of the second moment, 57344. -/
def ratioV (f : Fin 128 → EReal) : EReal := top f * Ideal.ofBits .f32 0x37924925#32

/-- The code of a first moment `x` at the inverse scale `inv`: cut to [-448, 448]. -/
def codeM (x inv : EReal) : EReal :=
  min (Ideal.ofBits .f32 0x43E00000#32) (max (Ideal.ofBits .f32 0xC3E00000#32) (x * inv))

/-- The code of a second moment `x` at the inverse scale `inv`: cut to [0, 57344]. -/
def codeV (x inv : EReal) : EReal :=
  min (Ideal.ofBits .f32 0x47600000#32) (max (Ideal.ofBits .f32 0x00000000#32) (x * inv))

/-- The largest absolute value is not negative. -/
theorem top_nonneg (f : Fin 128 → EReal) : 0 ≤ top f := by
  have h : (max (f 0) (-(f 0))) ≤ top f := by
    unfold top
    rw [Finset.le_fold_max]
    exact .inr ⟨0, Finset.mem_univ _, le_rfl⟩
  refine le_trans ?_ h
  rcases le_total 0 (f 0) with h0 | h0
  · exact le_max_of_le_left h0
  · exact le_max_of_le_right (EReal.neg_nonneg.mpr h0)

theorem ratioM_nonneg (f : Fin 128 → EReal) : 0 ≤ ratioM f := by
  refine mul_nonneg (top_nonneg f) ?_
  simp [Ideal.ofBits, Ideal.ieee, -EReal.coe_mul]

theorem ratioV_nonneg (f : Fin 128 → EReal) : 0 ≤ ratioV f := by
  refine mul_nonneg (top_nonneg f) ?_
  simp [Ideal.ofBits, Ideal.ieee, -EReal.coe_mul]

end Cert.Adam

end
-- ==== Proof.Group.lean ====
/-
  THE KERNEL'S WORK ON ONE GROUP OF 128 ROWS AND 128 COLUMNS.

  The kernel's inner loop is written out eight times, once per group of rows, and each copy computes the same five arrays
  from what it loads. `gScaleM`, `gCodeM`, `gScaleV`, `gCodeV`, `gDelta` are those arrays as functions of the loaded arrays
  (spelt with the first copy's expressions), and the lemmas read each of them at an index as the formulas of one group.
-/
module

public import proofs.«01_k».proof.Proof.Gen.KernelIdeal.Skeleton
public import proofs.«01_k».proof.Proof.Formula
public import Idealize.ShloMosaic.Lib.Pointwise

@[expose] public section

noncomputable section

namespace Cert.Adam

open Idealize.ShloMosaic Cert.KernelIdeal Cert.KernelIdeal.Gen

variable (g : Vec Ideal S128x128 .bf16) (mc : Vec Ideal S128x128 .fp8e4m3) (ms : Vec Ideal S1x128 .f32)
  (vc : Vec Ideal S128x128 .fp8e5m2) (vs : Vec Ideal S1x128 .f32) (p : Vec Ideal S128x128 .f32)
  (c1 c2 : Vec Ideal S1x1x128 .f32)

/-- Column `l` of a 128 by 128 array. -/
abbrev col {e : EltTy} (x : Vec Ideal S128x128 e) (l : Fin 128) (r : Fin 128) : Elt Ideal e := x (ix2 r l)

def gScaleM : FVec Ideal S1x128 .f32 := k0_pay13 (k0_pay11 g mc ms) (Scalar.ofBits .f32 0x3B124925#32)
def gCodeM : FVec Ideal S128x128 .fp8e4m3 :=
  k0_pay19 (k0_pay9 g mc ms) (k0_pay14 (k0_pay11 g mc ms) (Scalar.ofBits .f32 0x3B124925#32))
def gScaleV : FVec Ideal S1x128 .f32 := k0_pay18 (k0_pay15 (k0_pay10 g vc vs)) k0_pay16
def gCodeV : FVec Ideal S128x128 .fp8e5m2 := k0_pay21 (k0_pay20 (k0_pay10 g vc vs) (k0_pay15 (k0_pay10 g vc vs)) k0_pay16)
def gDelta : FVec Ideal S128x128 .f32 := k0_pay22 (k0_pay6 c1) (k0_pay7 c2) (k0_pay9 g mc ms) (k0_pay10 g vc vs) p

/-- The new first moment of a loaded group, at an index. -/
theorem newM_apply (r l : Fin 128) :
    (k0_pay9 g mc ms : FVec Ideal S128x128 .f32) (ix2 r l) = newM (col g l) (col mc l) (ms (ix2 0 l)) r := by
  unfold newM
  pointwise [k0_pay9, k0_pay8]

/-- The new second moment of a loaded group, at an index. -/
theorem newV_apply (r l : Fin 128) :
    (k0_pay10 g vc vs : FVec Ideal S128x128 .f32) (ix2 r l) = newV (col g l) (col vc l) (vs (ix2 0 l)) r := by
  unfold newV
  pointwise [k0_pay10, k0_pay8]

/-- The first moment's scale, at a column. -/
theorem gScaleM_apply (l : Fin 128) :
    gScaleM g mc ms (ix2 0 l) = kScale (ratioM (newM (col g l) (col mc l) (ms (ix2 0 l)))) := by
  unfold gScaleM kScale kWord kField ratioM top newM
  pointwise [k0_pay13, k0_pay12, k0_pay11, k0_pay9, k0_pay8]
  rfl

/-- The first moment's codes, at an index. -/
theorem gCodeM_apply (r l : Fin 128) :
    gCodeM g mc ms (ix2 r l) = codeM (newM (col g l) (col mc l) (ms (ix2 0 l)) r)
      (kInv (ratioM (newM (col g l) (col mc l) (ms (ix2 0 l))))) := by
  unfold gCodeM codeM kInv kWord kField ratioM top newM
  pointwise [k0_pay19, k0_pay14, k0_pay12, k0_pay11, k0_pay9, k0_pay8]
  rfl

/-- The second moment's scale, at a column. -/
theorem gScaleV_apply (l : Fin 128) :
    gScaleV g vc vs (ix2 0 l) = kScale (ratioV (newV (col g l) (col vc l) (vs (ix2 0 l)))) := by
  unfold gScaleV kScale kWord kField ratioV top newV
  pointwise [k0_pay18, k0_pay17, k0_pay16, k0_pay15, k0_pay10, k0_pay8]
  rfl

/-- The second moment's codes, at an index. -/
theorem gCodeV_apply (r l : Fin 128) :
    gCodeV g vc vs (ix2 r l) = codeV (newV (col g l) (col vc l) (vs (ix2 0 l)) r)
      (kInv (ratioV (newV (col g l) (col vc l) (vs (ix2 0 l))))) := by
  unfold gCodeV codeV kInv kWord kField ratioV top newV
  pointwise [k0_pay21, k0_pay20, k0_pay17, k0_pay16, k0_pay15, k0_pay10, k0_pay8]
  rfl

/-- The name of the constant -1/100000 stands for that number. -/
theorem lr_wd_eq : (Named.named κ "lr_wd" 0xB727C5AC#32 : Ideal .f32) = ((-1 / 100000 : ℝ) : EReal) :=
  IdealRules.named_const.ideal_named_scalar _ _ _ _ rfl

/-- The update of the parameters, at an index. -/
theorem gDelta_apply (r l : Fin 128) :
    gDelta g mc ms vc vs p c1 c2 (ix2 r l) = kDelta (c1 (ix3 0 0 l)) (c2 (ix3 0 0 l))
      (newM (col g l) (col mc l) (ms (ix2 0 l)) r) (newV (col g l) (col vc l) (vs (ix2 0 l)) r) (p (ix2 r l)) := by
  unfold gDelta kDelta newM newV
  pointwise [k0_pay22, k0_pay6, k0_pay7, k0_pay10, k0_pay9, k0_pay8]
  rw [lr_wd_eq]

end Cert.Adam

end
-- ==== Proof.Arrays.lean ====
/-
  THE STEP OF AN ARRAY, group by group.

  An array of `N = 128 n` rows and `d` columns has `n` groups per column. `fScaleM`, `fCodeM`, `fScaleV`, `fCodeV`, `fDelta`
  are the five results as functions of the whole input arrays: the formulas of the group that holds the index. They serve
  both for the blocks the kernel works on (8 groups of 640 columns) and for the whole arrays (112 groups of 5120 columns).
-/
module

public import proofs.«01_k».proof.Proof.Formula
public import Idealize.ShloMosaic.Lib.Pointwise

@[expose] public section

noncomputable section

namespace Cert.Adam

open Idealize.ShloMosaic

variable {N n d : ℕ} (h : N = 128 * n)

/-- The indices of an array of `N` rows and `d` columns. -/
abbrev Ix (N d : ℕ) : Type := (⟨2, ![N, d]⟩ : Shape).Idx

/-- The group of a row. -/
def grp (y : Ix N d) : Fin n := ⟨(y 0).val / 128, by
  have := (y 0).isLt
  simp only [Matrix.cons_val_zero] at this
  omega⟩

/-- The row within its group. -/
def row (y : Ix N d) : Fin 128 := ⟨(y 0).val % 128, Nat.mod_lt _ (by norm_num)⟩

/-- Group `q` of column `l`, as a function of the row within the group. -/
def gcol {α : Type} (X : Ix N d → α) (q : Fin n) (l : Fin d) (r : Fin 128) : α :=
  X (ix2 ⟨128 * q.val + r.val, by omega⟩ l)

variable (C1 C2 : EReal) (P G MC VC : Ix N d → EReal) (MS VS : Ix n d → EReal)

/-- Group `q` of column `l` of the new first moment. -/
def gM (q : Fin n) (l : Fin d) : Fin 128 → EReal := newM (gcol h G q l) (gcol h MC q l) (MS (ix2 q l))

/-- Group `q` of column `l` of the new second moment. -/
def gV (q : Fin n) (l : Fin d) : Fin 128 → EReal := newV (gcol h G q l) (gcol h VC q l) (VS (ix2 q l))

/-- The first moment's scales. -/
def fScaleM : Ix n d → EReal := fun z => kScale (ratioM (gM h G MC MS (z 0) (z 1)))

/-- The first moment's codes. -/
def fCodeM : Ix N d → EReal := fun y =>
  codeM (gM h G MC MS (grp h y) (y 1) (row y)) (kInv (ratioM (gM h G MC MS (grp h y) (y 1))))

/-- The second moment's scales. -/
def fScaleV : Ix n d → EReal := fun z => kScale (ratioV (gV h G VC VS (z 0) (z 1)))

/-- The second moment's codes. -/
def fCodeV : Ix N d → EReal := fun y =>
  codeV (gV h G VC VS (grp h y) (y 1) (row y)) (kInv (ratioV (gV h G VC VS (grp h y) (y 1))))

/-- The update of the parameters, from the two coefficients of the step. -/
def fDelta : Ix N d → EReal := fun y =>
  kDelta C1 C2 (gM h G MC MS (grp h y) (y 1) (row y)) (gV h G VC VS (grp h y) (y 1) (row y)) (P y)

end Cert.Adam

end
-- ==== Proof.Piece.lean ====
/-
  ONE STORE OF THE KERNEL'S INNER LOOP.

  In trip `k` of the loop over columns, copy `j` of the body loads rows `128 j ..` and columns `128 k ..` of the blocks, and
  stores its five results there. Each lemma says that the stored array is the block's formula (`fDelta`, `fCodeM`,
  `fScaleM`, `fCodeV`, `fScaleV`) on the rectangle it is stored to, whatever way the offsets are spelt.
-/
module

public import proofs.«01_k».proof.Proof.Group
public import proofs.«01_k».proof.Proof.Arrays
public import Idealize.ShloMosaic.Lib.Pipeline.Value
public import Idealize.ShloMosaic.Lib.Pipeline.ValueKit.Tiles

@[expose] public section

noncomputable section

namespace Cert.Adam

open Idealize.ShloMosaic Cert.KernelIdeal Cert.KernelIdeal.Gen

/-- The column offset of trip `k`, as the kernel computes it. -/
def colOff (k : ℕ) : ℕ :=
  (Scalar.indexCast (Scalar.muli (Scalar.addi 0#32 (Scalar.muli (Scf.iv 0#32 1#32 k) 1#32)) 128#32)).toNat

theorem colOff_eq (k : ℕ) (hk : k < 5) : colOff k = 128 * k := by
  interval_cases k <;> decide

/-- The offsets of a load or store of copy `j` in trip `k`. -/
theorem off_eq {o : Fin 2 → ℕ} {a j k : ℕ} (h : o = ![a, colOff k]) (ha : a = j) (hk : k < 5) : o = ![j, 128 * k] := by
  rw [h, ha, colOff_eq k hk]

/-- A row of scales of copy `a` in trip `k` lies within the block. -/
theorem inb_scale {o : Fin 2 → ℕ} {a k : ℕ} (h : o = ![a, colOff k]) (hk : k < 5) (ha : a < 8) :
    ∀ x, o x + S1x128.size x ≤ S8x640.size x := by
  subst h
  rw [colOff_eq k hk]
  intro x
  match x with
  | ⟨0, _⟩ => show a + 1 ≤ 8; omega
  | ⟨1, _⟩ => show 128 * k + 128 ≤ 640; omega

/-- The 128 rows from row `a` on in trip `k` lie within the block. -/
theorem inb_rows {o : Fin 2 → ℕ} {a k : ℕ} (h : o = ![a, colOff k]) (hk : k < 5) (ha : a + 128 ≤ 1024) :
    ∀ x, o x + S128x128.size x ≤ S1024x640.size x := by
  subst h
  rw [colOff_eq k hk]
  intro x
  match x with
  | ⟨0, _⟩ => show a + 128 ≤ 1024; omega
  | ⟨1, _⟩ => show 128 * k + 128 ≤ 640; omega

/-- A loaded rectangle of 128 rows, read by columns, is a group of the block. -/
theorem col_ld {e : EltTy} (X : Vec Ideal S1024x640 e) (j : Fin 8) (k : ℕ) {o : Fin 2 → ℕ} (inb) (ho : o = ![128 * j.val, 128 * k])
    (l : Fin 128) (hl : 128 * k + l.val < 640) :
    col (e := e) (View.ld (Val := Elt Ideal) (e' := e) X (Rect.unit o S128x128.size inb)) l
      = gcol (N := 1024) (n := 8) rfl X j ⟨128 * k + l.val, hl⟩ := by
  subst ho
  funext r
  refine View.ld_unit_apply_of X _ _ inb _ _ fun a => ?_
  match a with
  | ⟨0, _⟩ => rfl
  | ⟨1, _⟩ => rfl

/-- A loaded row of scales, at a column. -/
theorem scale_ld (X : Vec Ideal S8x640 .f32) (j : Fin 8) (k : ℕ) {o : Fin 2 → ℕ} (inb) (ho : o = ![j.val, 128 * k])
    (l : Fin 128) (hl : 128 * k + l.val < 640) :
    View.ld (Val := Elt Ideal) (e' := .f32) X (Rect.unit o S1x128.size inb) (ix2 0 l) = X (ix2 j ⟨128 * k + l.val, hl⟩) := by
  subst ho
  refine View.ld_unit_apply_of X _ _ inb _ _ fun a => ?_
  match a with
  | ⟨0, _⟩ => rfl
  | ⟨1, _⟩ => rfl

/-- Where a stored row of scales lands. -/
theorem emb_scale (j : Fin 8) (k : ℕ) {o : Fin 2 → ℕ} (inb) (ho : o = ![j.val, 128 * k]) (l : Fin 128) (hl : 128 * k + l.val < 640) :
    (Rect.unit (s := S8x640) o S1x128.size inb).emb (ix2 0 l) = ix2 j ⟨128 * k + l.val, hl⟩ := by
  subst ho
  refine funext fun a => Fin.ext ((Rect.idx_unit_val (s := S8x640) _ _ inb _ a).trans ?_)
  match a with
  | ⟨0, _⟩ => rfl
  | ⟨1, _⟩ => rfl

/-- Where a stored rectangle of 128 rows lands. -/
theorem emb_rows (j : Fin 8) (k : ℕ) {o : Fin 2 → ℕ} (inb) (ho : o = ![128 * j.val, 128 * k]) (r l : Fin 128) (hl : 128 * k + l.val < 640) :
    (Rect.unit (s := S1024x640) o S128x128.size inb).emb (ix2 r l) = ix2 ⟨128 * j.val + r.val, by omega⟩ ⟨128 * k + l.val, hl⟩ := by
  subst ho
  refine funext fun a => Fin.ext ((Rect.idx_unit_val (s := S1024x640) _ _ inb _ a).trans ?_)
  match a with
  | ⟨0, _⟩ => rfl
  | ⟨1, _⟩ => rfl

/-- The group of row `128 j + r`. -/
theorem grp_rows (j : Fin 8) (r : Fin 128) (l : Fin 640) (h) :
    grp (N := 1024) (n := 8) rfl (ix2 ⟨128 * j.val + r.val, h⟩ l) = j :=
  Fin.ext (show (128 * j.val + r.val) / 128 = j.val by omega)

/-- The row of row `128 j + r` within its group. -/
theorem row_rows (j : Fin 8) (r : Fin 128) (l : Fin 640) (h) :
    row (N := 1024) (ix2 ⟨128 * j.val + r.val, h⟩ l) = r :=
  Fin.ext (show (128 * j.val + r.val) % 128 = r.val by omega)

variable (P : Vec Ideal S1024x640 .f32) (G : Vec Ideal S1024x640 .bf16) (MC : Vec Ideal S1024x640 .fp8e4m3)
  (MS : Vec Ideal S8x640 .f32) (VC : Vec Ideal S1024x640 .fp8e5m2) (VS : Vec Ideal S8x640 .f32)
variable (j : Fin 8) (k : ℕ) (hk : k < 5) {o og oc os op : Fin 2 → ℕ}

include hk

theorem piece_scaleM (inb ig ic is) (ho : o = ![j.val, 128 * k]) (hg : og = ![128 * j.val, 128 * k])
    (hc : oc = ![128 * j.val, 128 * k]) (hs : os = ![j.val, 128 * k]) (x : S1x128.Idx) :
    gScaleM (View.ld (Val := Elt Ideal) (e' := .bf16) G (Rect.unit og S128x128.size ig))
        (View.ld (Val := Elt Ideal) (e' := .fp8e4m3) MC (Rect.unit oc S128x128.size ic))
        (View.ld (Val := Elt Ideal) (e' := .f32) MS (Rect.unit os S1x128.size is)) x
      = fScaleM (N := 1024) (n := 8) rfl G MC MS ((Rect.unit (s := S8x640) o S1x128.size inb).emb x) := by
  obtain ⟨l, rfl⟩ : ∃ l : Fin 128, x = ix2 0 l := ⟨x 1, funext fun a => by
    match a with
    | ⟨0, _⟩ => exact Subsingleton.elim (α := Fin 1) _ _
    | ⟨1, _⟩ => rfl⟩
  have hl : 128 * k + l.val < 640 := by omega
  rw [emb_scale j k inb ho l hl, gScaleM_apply, col_ld G j k ig hg l hl, col_ld MC j k ic hc l hl, scale_ld MS j k is hs l hl]
  rfl

theorem piece_scaleV (inb ig ic is) (ho : o = ![j.val, 128 * k]) (hg : og = ![128 * j.val, 128 * k])
    (hc : oc = ![128 * j.val, 128 * k]) (hs : os = ![j.val, 128 * k]) (x : S1x128.Idx) :
    gScaleV (View.ld (Val := Elt Ideal) (e' := .bf16) G (Rect.unit og S128x128.size ig))
        (View.ld (Val := Elt Ideal) (e' := .fp8e5m2) VC (Rect.unit oc S128x128.size ic))
        (View.ld (Val := Elt Ideal) (e' := .f32) VS (Rect.unit os S1x128.size is)) x
      = fScaleV (N := 1024) (n := 8) rfl G VC VS ((Rect.unit (s := S8x640) o S1x128.size inb).emb x) := by
  obtain ⟨l, rfl⟩ : ∃ l : Fin 128, x = ix2 0 l := ⟨x 1, funext fun a => by
    match a with
    | ⟨0, _⟩ => exact Subsingleton.elim (α := Fin 1) _ _
    | ⟨1, _⟩ => rfl⟩
  have hl : 128 * k + l.val < 640 := by omega
  rw [emb_scale j k inb ho l hl, gScaleV_apply, col_ld G j k ig hg l hl, col_ld VC j k ic hc l hl, scale_ld VS j k is hs l hl]
  rfl

theorem piece_codeM (inb ig ic is) (ho : o = ![128 * j.val, 128 * k]) (hg : og = ![128 * j.val, 128 * k])
    (hc : oc = ![128 * j.val, 128 * k]) (hs : os = ![j.val, 128 * k]) (x : S128x128.Idx) :
    gCodeM (View.ld (Val := Elt Ideal) (e' := .bf16) G (Rect.unit og S128x128.size ig))
        (View.ld (Val := Elt Ideal) (e' := .fp8e4m3) MC (Rect.unit oc S128x128.size ic))
        (View.ld (Val := Elt Ideal) (e' := .f32) MS (Rect.unit os S1x128.size is)) x
      = fCodeM (N := 1024) (n := 8) rfl G MC MS ((Rect.unit (s := S1024x640) o S128x128.size inb).emb x) := by
  obtain ⟨r, l, rfl⟩ : ∃ r l : Fin 128, x = ix2 r l := ⟨x 0, x 1, eq_ix2 x⟩
  have hl : 128 * k + l.val < 640 := by omega
  rw [emb_rows j k inb ho r l hl, gCodeM_apply, col_ld G j k ig hg l hl, col_ld MC j k ic hc l hl, scale_ld MS j k is hs l hl]
  unfold fCodeM
  rw [grp_rows, row_rows]
  rfl

theorem piece_codeV (inb ig ic is) (ho : o = ![128 * j.val, 128 * k]) (hg : og = ![128 * j.val, 128 * k])
    (hc : oc = ![128 * j.val, 128 * k]) (hs : os = ![j.val, 128 * k]) (x : S128x128.Idx) :
    gCodeV (View.ld (Val := Elt Ideal) (e' := .bf16) G (Rect.unit og S128x128.size ig))
        (View.ld (Val := Elt Ideal) (e' := .fp8e5m2) VC (Rect.unit oc S128x128.size ic))
        (View.ld (Val := Elt Ideal) (e' := .f32) VS (Rect.unit os S1x128.size is)) x
      = fCodeV (N := 1024) (n := 8) rfl G VC VS ((Rect.unit (s := S1024x640) o S128x128.size inb).emb x) := by
  obtain ⟨r, l, rfl⟩ : ∃ r l : Fin 128, x = ix2 r l := ⟨x 0, x 1, eq_ix2 x⟩
  have hl : 128 * k + l.val < 640 := by omega
  rw [emb_rows j k inb ho r l hl, gCodeV_apply, col_ld G j k ig hg l hl, col_ld VC j k ic hc l hl, scale_ld VS j k is hs l hl]
  unfold fCodeV
  rw [grp_rows, row_rows]
  rfl

theorem piece_delta (S : Vec Ideal S2x8x128 .f32) (C1 C2 : EReal) (h1 : ∀ a l, S (ix3 0 a l) = C1) (h2 : ∀ a l, S (ix3 1 a l) = C2)
    {ov ot : Fin 2 → ℕ} (inb ig ic is iv it ip i1 i2) (ho : o = ![128 * j.val, 128 * k]) (hg : og = ![128 * j.val, 128 * k])
    (hc : oc = ![128 * j.val, 128 * k]) (hs : os = ![j.val, 128 * k]) (hv : ov = ![128 * j.val, 128 * k])
    (ht : ot = ![j.val, 128 * k]) (hp : op = ![128 * j.val, 128 * k]) (x : S128x128.Idx) :
    gDelta (View.ld (Val := Elt Ideal) (e' := .bf16) G (Rect.unit og S128x128.size ig))
        (View.ld (Val := Elt Ideal) (e' := .fp8e4m3) MC (Rect.unit oc S128x128.size ic))
        (View.ld (Val := Elt Ideal) (e' := .f32) MS (Rect.unit os S1x128.size is))
        (View.ld (Val := Elt Ideal) (e' := .fp8e5m2) VC (Rect.unit ov S128x128.size iv))
        (View.ld (Val := Elt Ideal) (e' := .f32) VS (Rect.unit ot S1x128.size it))
        (View.ld (Val := Elt Ideal) (e' := .f32) P (Rect.unit op S128x128.size ip))
        (View.ld (Val := Elt Ideal) (e' := .f32) S (Rect.unit ![0, 0, 0] S1x1x128.size i1))
        (View.ld (Val := Elt Ideal) (e' := .f32) S (Rect.unit ![1, 0, 0] S1x1x128.size i2)) x
      = fDelta (N := 1024) (n := 8) rfl C1 C2 P G MC VC MS VS ((Rect.unit (s := S1024x640) o S128x128.size inb).emb x) := by
  obtain ⟨r, l, rfl⟩ : ∃ r l : Fin 128, x = ix2 r l := ⟨x 0, x 1, eq_ix2 x⟩
  have hl : 128 * k + l.val < 640 := by omega
  have e1 : View.ld (Val := Elt Ideal) (e' := .f32) S (Rect.unit ![0, 0, 0] S1x1x128.size i1) (ix3 0 0 l) = C1 :=
    (View.ld_unit_apply_of S _ _ i1 _ (ix3 0 0 l) fun a => by
      match a with
      | ⟨0, _⟩ => rfl
      | ⟨1, _⟩ => rfl
      | ⟨2, _⟩ => exact (Nat.zero_add _).symm).trans (h1 0 l)
  have e2 : View.ld (Val := Elt Ideal) (e' := .f32) S (Rect.unit ![1, 0, 0] S1x1x128.size i2) (ix3 0 0 l) = C2 :=
    (View.ld_unit_apply_of S _ _ i2 _ (ix3 1 0 l) fun a => by
      match a with
      | ⟨0, _⟩ => rfl
      | ⟨1, _⟩ => rfl
      | ⟨2, _⟩ => exact (Nat.zero_add _).symm).trans (h2 0 l)
  have ep : View.ld (Val := Elt Ideal) (e' := .f32) P (Rect.unit op S128x128.size ip) (ix2 r l)
      = P (ix2 ⟨128 * j.val + r.val, by omega⟩ ⟨128 * k + l.val, hl⟩) := congrFun (col_ld P j k ip hp l hl) r
  rw [emb_rows j k inb ho r l hl, gDelta_apply, col_ld G j k ig hg l hl, col_ld MC j k ic hc l hl, col_ld VC j k iv hv l hl,
    scale_ld MS j k is hs l hl, scale_ld VS j k it ht l hl, e1, e2, ep]
  unfold fDelta
  rw [grp_rows, row_rows]
  rfl

end Cert.Adam

end
-- ==== Proof.Trip.lean ====
/-
  ONE TRIP OF THE KERNEL'S LOOP OVER COLUMNS.

  In one trip the eight copies of the body store to each of the five result blocks. Every one of those stores writes the
  block's formula on its rectangle.
-/
module

public import proofs.«01_k».proof.Proof.Gen.KernelIdeal.Loops
public import proofs.«01_k».proof.Proof.Piece
public import Idealize.ShloMosaic.Lib.Tactic

@[expose] public section

noncomputable section

open Idealize.ShloMosaic Idealize.ShloMosaic.TcCoe Idealize.SL.Sem
open Cert.KernelIdeal Cert.KernelIdeal.Gen

namespace Cert.Adam

variable (𝒱 : Variants) (c : Dev nD) (bd : Option 𝒱.V) (i : grid0.Coords) (arg2 : Memref sig .tc .smem S1 .i32) (harg2 : arg2.IsWhole) (arg3 : Memref sig .tc .vmem S1024x640 .f32) (harg3 : arg3.IsWhole) (arg4 : Memref sig .tc .vmem S1024x640 .bf16) (harg4 : arg4.IsWhole) (arg5 : Memref sig .tc .vmem S1024x640 .fp8e4m3) (harg5 : arg5.IsWhole) (arg6 : Memref sig .tc .vmem S8x640 .f32) (harg6 : arg6.IsWhole) (arg7 : Memref sig .tc .vmem S1024x640 .fp8e5m2) (harg7 : arg7.IsWhole) (arg8 : Memref sig .tc .vmem S8x640 .f32) (harg8 : arg8.IsWhole) (arg9 : Memref sig .tc .vmem S1024x640 .f32) (harg9 : arg9.IsWhole) (arg10 : Memref sig .tc .vmem S1024x640 .fp8e4m3) (harg10 : arg10.IsWhole) (arg11 : Memref sig .tc .vmem S8x640 .f32) (harg11 : arg11.IsWhole) (arg12 : Memref sig .tc .vmem S1024x640 .fp8e5m2) (harg12 : arg12.IsWhole) (arg13 : Memref sig .tc .vmem S8x640 .f32) (harg13 : arg13.IsWhole) (arg14 : Memref sig .tc .vmem S2x8x128 .f32) (harg14 : arg14.IsWhole)

variable (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg14 : BufTy.Contents (Elt Ideal) arg14.view.ty)
  (k : Fin k0_t1_loop.trips)

/-- The loop has five trips. -/
theorem trips_lt (k : Fin k0_t1_loop.trips) : k.val < 5 := Nat.lt_of_lt_of_le k.isLt k0_t1_abs.2.1

/-- The stores to the first moment's scales. -/
theorem trip_scaleM :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 k).2.2.1, ∀ x, p.2 x = fScaleM (N := 1024) (n := 8) rfl (arg4.view.read (Elt Ideal) X_arg4) (arg5.view.read (Elt Ideal) X_arg5) (arg6.view.read (Elt Ideal) X_arg6) (p.1.emb x) := by
  have hk := trips_lt k
  unfold trip_k0_t1
  dsimp only
  sl_unfold_words
  intro p hp
  simp only [List.mem_cons, List.not_mem_nil, or_false] at hp
  rcases hp with rfl | rfl | rfl | rfl | rfl | rfl | rfl | rfl
  · exact piece_scaleM (arg4.view.read (Elt Ideal) X_arg4) (arg5.view.read (Elt Ideal) X_arg5) (arg6.view.read (Elt Ideal) X_arg6) 7 k.val hk (inb_scale (a := 7) rfl hk (by norm_num)) (inb_rows (a := 896) rfl hk (by norm_num)) (inb_rows (a := 896) rfl hk (by norm_num)) (inb_scale (a := 7) rfl hk (by norm_num)) (off_eq (a := 7) rfl rfl hk) (off_eq (a := 896) rfl rfl hk) (off_eq (a := 896) rfl rfl hk) (off_eq (a := 7) rfl rfl hk)
  · exact piece_scaleM (arg4.view.read (Elt Ideal) X_arg4) (arg5.view.read (Elt Ideal) X_arg5) (arg6.view.read (Elt Ideal) X_arg6) 6 k.val hk (inb_scale (a := 6) rfl hk (by norm_num)) (inb_rows (a := 768) rfl hk (by norm_num)) (inb_rows (a := 768) rfl hk (by norm_num)) (inb_scale (a := 6) rfl hk (by norm_num)) (off_eq (a := 6) rfl rfl hk) (off_eq (a := 768) rfl rfl hk) (off_eq (a := 768) rfl rfl hk) (off_eq (a := 6) rfl rfl hk)
  · exact piece_scaleM (arg4.view.read (Elt Ideal) X_arg4) (arg5.view.read (Elt Ideal) X_arg5) (arg6.view.read (Elt Ideal) X_arg6) 5 k.val hk (inb_scale (a := 5) rfl hk (by norm_num)) (inb_rows (a := 640) rfl hk (by norm_num)) (inb_rows (a := 640) rfl hk (by norm_num)) (inb_scale (a := 5) rfl hk (by norm_num)) (off_eq (a := 5) rfl rfl hk) (off_eq (a := 640) rfl rfl hk) (off_eq (a := 640) rfl rfl hk) (off_eq (a := 5) rfl rfl hk)
  · exact piece_scaleM (arg4.view.read (Elt Ideal) X_arg4) (arg5.view.read (Elt Ideal) X_arg5) (arg6.view.read (Elt Ideal) X_arg6) 4 k.val hk (inb_scale (a := 4) rfl hk (by norm_num)) (inb_rows (a := 512) rfl hk (by norm_num)) (inb_rows (a := 512) rfl hk (by norm_num)) (inb_scale (a := 4) rfl hk (by norm_num)) (off_eq (a := 4) rfl rfl hk) (off_eq (a := 512) rfl rfl hk) (off_eq (a := 512) rfl rfl hk) (off_eq (a := 4) rfl rfl hk)
  · exact piece_scaleM (arg4.view.read (Elt Ideal) X_arg4) (arg5.view.read (Elt Ideal) X_arg5) (arg6.view.read (Elt Ideal) X_arg6) 3 k.val hk (inb_scale (a := 3) rfl hk (by norm_num)) (inb_rows (a := 384) rfl hk (by norm_num)) (inb_rows (a := 384) rfl hk (by norm_num)) (inb_scale (a := 3) rfl hk (by norm_num)) (off_eq (a := 3) rfl rfl hk) (off_eq (a := 384) rfl rfl hk) (off_eq (a := 384) rfl rfl hk) (off_eq (a := 3) rfl rfl hk)
  · exact piece_scaleM (arg4.view.read (Elt Ideal) X_arg4) (arg5.view.read (Elt Ideal) X_arg5) (arg6.view.read (Elt Ideal) X_arg6) 2 k.val hk (inb_scale (a := 2) rfl hk (by norm_num)) (inb_rows (a := 256) rfl hk (by norm_num)) (inb_rows (a := 256) rfl hk (by norm_num)) (inb_scale (a := 2) rfl hk (by norm_num)) (off_eq (a := 2) rfl rfl hk) (off_eq (a := 256) rfl rfl hk) (off_eq (a := 256) rfl rfl hk) (off_eq (a := 2) rfl rfl hk)
  · exact piece_scaleM (arg4.view.read (Elt Ideal) X_arg4) (arg5.view.read (Elt Ideal) X_arg5) (arg6.view.read (Elt Ideal) X_arg6) 1 k.val hk (inb_scale (a := 1) rfl hk (by norm_num)) (inb_rows (a := 128) rfl hk (by norm_num)) (inb_rows (a := 128) rfl hk (by norm_num)) (inb_scale (a := 1) rfl hk (by norm_num)) (off_eq (a := 1) rfl rfl hk) (off_eq (a := 128) rfl rfl hk) (off_eq (a := 128) rfl rfl hk) (off_eq (a := 1) rfl rfl hk)
  · exact piece_scaleM (arg4.view.read (Elt Ideal) X_arg4) (arg5.view.read (Elt Ideal) X_arg5) (arg6.view.read (Elt Ideal) X_arg6) 0 k.val hk (inb_scale (a := 0) rfl hk (by norm_num)) (inb_rows (a := 0) rfl hk (by norm_num)) (inb_rows (a := 0) rfl hk (by norm_num)) (inb_scale (a := 0) rfl hk (by norm_num)) (off_eq (a := 0) rfl rfl hk) (off_eq (a := 0) rfl rfl hk) (off_eq (a := 0) rfl rfl hk) (off_eq (a := 0) rfl rfl hk)

/-- The stores to the second moment's scales. -/
theorem trip_scaleV :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 k).2.2.2.2.1, ∀ x, p.2 x = fScaleV (N := 1024) (n := 8) rfl (arg4.view.read (Elt Ideal) X_arg4) (arg7.view.read (Elt Ideal) X_arg7) (arg8.view.read (Elt Ideal) X_arg8) (p.1.emb x) := by
  have hk := trips_lt k
  unfold trip_k0_t1
  dsimp only
  sl_unfold_words
  intro p hp
  simp only [List.mem_cons, List.not_mem_nil, or_false] at hp
  rcases hp with rfl | rfl | rfl | rfl | rfl | rfl | rfl | rfl
  · exact piece_scaleV (arg4.view.read (Elt Ideal) X_arg4) (arg7.view.read (Elt Ideal) X_arg7) (arg8.view.read (Elt Ideal) X_arg8) 7 k.val hk (inb_scale (a := 7) rfl hk (by norm_num)) (inb_rows (a := 896) rfl hk (by norm_num)) (inb_rows (a := 896) rfl hk (by norm_num)) (inb_scale (a := 7) rfl hk (by norm_num)) (off_eq (a := 7) rfl rfl hk) (off_eq (a := 896) rfl rfl hk) (off_eq (a := 896) rfl rfl hk) (off_eq (a := 7) rfl rfl hk)
  · exact piece_scaleV (arg4.view.read (Elt Ideal) X_arg4) (arg7.view.read (Elt Ideal) X_arg7) (arg8.view.read (Elt Ideal) X_arg8) 6 k.val hk (inb_scale (a := 6) rfl hk (by norm_num)) (inb_rows (a := 768) rfl hk (by norm_num)) (inb_rows (a := 768) rfl hk (by norm_num)) (inb_scale (a := 6) rfl hk (by norm_num)) (off_eq (a := 6) rfl rfl hk) (off_eq (a := 768) rfl rfl hk) (off_eq (a := 768) rfl rfl hk) (off_eq (a := 6) rfl rfl hk)
  · exact piece_scaleV (arg4.view.read (Elt Ideal) X_arg4) (arg7.view.read (Elt Ideal) X_arg7) (arg8.view.read (Elt Ideal) X_arg8) 5 k.val hk (inb_scale (a := 5) rfl hk (by norm_num)) (inb_rows (a := 640) rfl hk (by norm_num)) (inb_rows (a := 640) rfl hk (by norm_num)) (inb_scale (a := 5) rfl hk (by norm_num)) (off_eq (a := 5) rfl rfl hk) (off_eq (a := 640) rfl rfl hk) (off_eq (a := 640) rfl rfl hk) (off_eq (a := 5) rfl rfl hk)
  · exact piece_scaleV (arg4.view.read (Elt Ideal) X_arg4) (arg7.view.read (Elt Ideal) X_arg7) (arg8.view.read (Elt Ideal) X_arg8) 4 k.val hk (inb_scale (a := 4) rfl hk (by norm_num)) (inb_rows (a := 512) rfl hk (by norm_num)) (inb_rows (a := 512) rfl hk (by norm_num)) (inb_scale (a := 4) rfl hk (by norm_num)) (off_eq (a := 4) rfl rfl hk) (off_eq (a := 512) rfl rfl hk) (off_eq (a := 512) rfl rfl hk) (off_eq (a := 4) rfl rfl hk)
  · exact piece_scaleV (arg4.view.read (Elt Ideal) X_arg4) (arg7.view.read (Elt Ideal) X_arg7) (arg8.view.read (Elt Ideal) X_arg8) 3 k.val hk (inb_scale (a := 3) rfl hk (by norm_num)) (inb_rows (a := 384) rfl hk (by norm_num)) (inb_rows (a := 384) rfl hk (by norm_num)) (inb_scale (a := 3) rfl hk (by norm_num)) (off_eq (a := 3) rfl rfl hk) (off_eq (a := 384) rfl rfl hk) (off_eq (a := 384) rfl rfl hk) (off_eq (a := 3) rfl rfl hk)
  · exact piece_scaleV (arg4.view.read (Elt Ideal) X_arg4) (arg7.view.read (Elt Ideal) X_arg7) (arg8.view.read (Elt Ideal) X_arg8) 2 k.val hk (inb_scale (a := 2) rfl hk (by norm_num)) (inb_rows (a := 256) rfl hk (by norm_num)) (inb_rows (a := 256) rfl hk (by norm_num)) (inb_scale (a := 2) rfl hk (by norm_num)) (off_eq (a := 2) rfl rfl hk) (off_eq (a := 256) rfl rfl hk) (off_eq (a := 256) rfl rfl hk) (off_eq (a := 2) rfl rfl hk)
  · exact piece_scaleV (arg4.view.read (Elt Ideal) X_arg4) (arg7.view.read (Elt Ideal) X_arg7) (arg8.view.read (Elt Ideal) X_arg8) 1 k.val hk (inb_scale (a := 1) rfl hk (by norm_num)) (inb_rows (a := 128) rfl hk (by norm_num)) (inb_rows (a := 128) rfl hk (by norm_num)) (inb_scale (a := 1) rfl hk (by norm_num)) (off_eq (a := 1) rfl rfl hk) (off_eq (a := 128) rfl rfl hk) (off_eq (a := 128) rfl rfl hk) (off_eq (a := 1) rfl rfl hk)
  · exact piece_scaleV (arg4.view.read (Elt Ideal) X_arg4) (arg7.view.read (Elt Ideal) X_arg7) (arg8.view.read (Elt Ideal) X_arg8) 0 k.val hk (inb_scale (a := 0) rfl hk (by norm_num)) (inb_rows (a := 0) rfl hk (by norm_num)) (inb_rows (a := 0) rfl hk (by norm_num)) (inb_scale (a := 0) rfl hk (by norm_num)) (off_eq (a := 0) rfl rfl hk) (off_eq (a := 0) rfl rfl hk) (off_eq (a := 0) rfl rfl hk) (off_eq (a := 0) rfl rfl hk)

/-- The stores to the first moment's codes. -/
theorem trip_codeM :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 k).2.1, ∀ x, p.2 x = fCodeM (N := 1024) (n := 8) rfl (arg4.view.read (Elt Ideal) X_arg4) (arg5.view.read (Elt Ideal) X_arg5) (arg6.view.read (Elt Ideal) X_arg6) (p.1.emb x) := by
  have hk := trips_lt k
  unfold trip_k0_t1
  dsimp only
  sl_unfold_words
  intro p hp
  simp only [List.mem_cons, List.not_mem_nil, or_false] at hp
  rcases hp with rfl | rfl | rfl | rfl | rfl | rfl | rfl | rfl
  · exact piece_codeM (arg4.view.read (Elt Ideal) X_arg4) (arg5.view.read (Elt Ideal) X_arg5) (arg6.view.read (Elt Ideal) X_arg6) 7 k.val hk (inb_rows (a := 896) rfl hk (by norm_num)) (inb_rows (a := 896) rfl hk (by norm_num)) (inb_rows (a := 896) rfl hk (by norm_num)) (inb_scale (a := 7) rfl hk (by norm_num)) (off_eq (a := 896) rfl rfl hk) (off_eq (a := 896) rfl rfl hk) (off_eq (a := 896) rfl rfl hk) (off_eq (a := 7) rfl rfl hk)
  · exact piece_codeM (arg4.view.read (Elt Ideal) X_arg4) (arg5.view.read (Elt Ideal) X_arg5) (arg6.view.read (Elt Ideal) X_arg6) 6 k.val hk (inb_rows (a := 768) rfl hk (by norm_num)) (inb_rows (a := 768) rfl hk (by norm_num)) (inb_rows (a := 768) rfl hk (by norm_num)) (inb_scale (a := 6) rfl hk (by norm_num)) (off_eq (a := 768) rfl rfl hk) (off_eq (a := 768) rfl rfl hk) (off_eq (a := 768) rfl rfl hk) (off_eq (a := 6) rfl rfl hk)
  · exact piece_codeM (arg4.view.read (Elt Ideal) X_arg4) (arg5.view.read (Elt Ideal) X_arg5) (arg6.view.read (Elt Ideal) X_arg6) 5 k.val hk (inb_rows (a := 640) rfl hk (by norm_num)) (inb_rows (a := 640) rfl hk (by norm_num)) (inb_rows (a := 640) rfl hk (by norm_num)) (inb_scale (a := 5) rfl hk (by norm_num)) (off_eq (a := 640) rfl rfl hk) (off_eq (a := 640) rfl rfl hk) (off_eq (a := 640) rfl rfl hk) (off_eq (a := 5) rfl rfl hk)
  · exact piece_codeM (arg4.view.read (Elt Ideal) X_arg4) (arg5.view.read (Elt Ideal) X_arg5) (arg6.view.read (Elt Ideal) X_arg6) 4 k.val hk (inb_rows (a := 512) rfl hk (by norm_num)) (inb_rows (a := 512) rfl hk (by norm_num)) (inb_rows (a := 512) rfl hk (by norm_num)) (inb_scale (a := 4) rfl hk (by norm_num)) (off_eq (a := 512) rfl rfl hk) (off_eq (a := 512) rfl rfl hk) (off_eq (a := 512) rfl rfl hk) (off_eq (a := 4) rfl rfl hk)
  · exact piece_codeM (arg4.view.read (Elt Ideal) X_arg4) (arg5.view.read (Elt Ideal) X_arg5) (arg6.view.read (Elt Ideal) X_arg6) 3 k.val hk (inb_rows (a := 384) rfl hk (by norm_num)) (inb_rows (a := 384) rfl hk (by norm_num)) (inb_rows (a := 384) rfl hk (by norm_num)) (inb_scale (a := 3) rfl hk (by norm_num)) (off_eq (a := 384) rfl rfl hk) (off_eq (a := 384) rfl rfl hk) (off_eq (a := 384) rfl rfl hk) (off_eq (a := 3) rfl rfl hk)
  · exact piece_codeM (arg4.view.read (Elt Ideal) X_arg4) (arg5.view.read (Elt Ideal) X_arg5) (arg6.view.read (Elt Ideal) X_arg6) 2 k.val hk (inb_rows (a := 256) rfl hk (by norm_num)) (inb_rows (a := 256) rfl hk (by norm_num)) (inb_rows (a := 256) rfl hk (by norm_num)) (inb_scale (a := 2) rfl hk (by norm_num)) (off_eq (a := 256) rfl rfl hk) (off_eq (a := 256) rfl rfl hk) (off_eq (a := 256) rfl rfl hk) (off_eq (a := 2) rfl rfl hk)
  · exact piece_codeM (arg4.view.read (Elt Ideal) X_arg4) (arg5.view.read (Elt Ideal) X_arg5) (arg6.view.read (Elt Ideal) X_arg6) 1 k.val hk (inb_rows (a := 128) rfl hk (by norm_num)) (inb_rows (a := 128) rfl hk (by norm_num)) (inb_rows (a := 128) rfl hk (by norm_num)) (inb_scale (a := 1) rfl hk (by norm_num)) (off_eq (a := 128) rfl rfl hk) (off_eq (a := 128) rfl rfl hk) (off_eq (a := 128) rfl rfl hk) (off_eq (a := 1) rfl rfl hk)
  · exact piece_codeM (arg4.view.read (Elt Ideal) X_arg4) (arg5.view.read (Elt Ideal) X_arg5) (arg6.view.read (Elt Ideal) X_arg6) 0 k.val hk (inb_rows (a := 0) rfl hk (by norm_num)) (inb_rows (a := 0) rfl hk (by norm_num)) (inb_rows (a := 0) rfl hk (by norm_num)) (inb_scale (a := 0) rfl hk (by norm_num)) (off_eq (a := 0) rfl rfl hk) (off_eq (a := 0) rfl rfl hk) (off_eq (a := 0) rfl rfl hk) (off_eq (a := 0) rfl rfl hk)

/-- The stores to the second moment's codes. -/
theorem trip_codeV :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 k).2.2.2.1, ∀ x, p.2 x = fCodeV (N := 1024) (n := 8) rfl (arg4.view.read (Elt Ideal) X_arg4) (arg7.view.read (Elt Ideal) X_arg7) (arg8.view.read (Elt Ideal) X_arg8) (p.1.emb x) := by
  have hk := trips_lt k
  unfold trip_k0_t1
  dsimp only
  sl_unfold_words
  intro p hp
  simp only [List.mem_cons, List.not_mem_nil, or_false] at hp
  rcases hp with rfl | rfl | rfl | rfl | rfl | rfl | rfl | rfl
  · exact piece_codeV (arg4.view.read (Elt Ideal) X_arg4) (arg7.view.read (Elt Ideal) X_arg7) (arg8.view.read (Elt Ideal) X_arg8) 7 k.val hk (inb_rows (a := 896) rfl hk (by norm_num)) (inb_rows (a := 896) rfl hk (by norm_num)) (inb_rows (a := 896) rfl hk (by norm_num)) (inb_scale (a := 7) rfl hk (by norm_num)) (off_eq (a := 896) rfl rfl hk) (off_eq (a := 896) rfl rfl hk) (off_eq (a := 896) rfl rfl hk) (off_eq (a := 7) rfl rfl hk)
  · exact piece_codeV (arg4.view.read (Elt Ideal) X_arg4) (arg7.view.read (Elt Ideal) X_arg7) (arg8.view.read (Elt Ideal) X_arg8) 6 k.val hk (inb_rows (a := 768) rfl hk (by norm_num)) (inb_rows (a := 768) rfl hk (by norm_num)) (inb_rows (a := 768) rfl hk (by norm_num)) (inb_scale (a := 6) rfl hk (by norm_num)) (off_eq (a := 768) rfl rfl hk) (off_eq (a := 768) rfl rfl hk) (off_eq (a := 768) rfl rfl hk) (off_eq (a := 6) rfl rfl hk)
  · exact piece_codeV (arg4.view.read (Elt Ideal) X_arg4) (arg7.view.read (Elt Ideal) X_arg7) (arg8.view.read (Elt Ideal) X_arg8) 5 k.val hk (inb_rows (a := 640) rfl hk (by norm_num)) (inb_rows (a := 640) rfl hk (by norm_num)) (inb_rows (a := 640) rfl hk (by norm_num)) (inb_scale (a := 5) rfl hk (by norm_num)) (off_eq (a := 640) rfl rfl hk) (off_eq (a := 640) rfl rfl hk) (off_eq (a := 640) rfl rfl hk) (off_eq (a := 5) rfl rfl hk)
  · exact piece_codeV (arg4.view.read (Elt Ideal) X_arg4) (arg7.view.read (Elt Ideal) X_arg7) (arg8.view.read (Elt Ideal) X_arg8) 4 k.val hk (inb_rows (a := 512) rfl hk (by norm_num)) (inb_rows (a := 512) rfl hk (by norm_num)) (inb_rows (a := 512) rfl hk (by norm_num)) (inb_scale (a := 4) rfl hk (by norm_num)) (off_eq (a := 512) rfl rfl hk) (off_eq (a := 512) rfl rfl hk) (off_eq (a := 512) rfl rfl hk) (off_eq (a := 4) rfl rfl hk)
  · exact piece_codeV (arg4.view.read (Elt Ideal) X_arg4) (arg7.view.read (Elt Ideal) X_arg7) (arg8.view.read (Elt Ideal) X_arg8) 3 k.val hk (inb_rows (a := 384) rfl hk (by norm_num)) (inb_rows (a := 384) rfl hk (by norm_num)) (inb_rows (a := 384) rfl hk (by norm_num)) (inb_scale (a := 3) rfl hk (by norm_num)) (off_eq (a := 384) rfl rfl hk) (off_eq (a := 384) rfl rfl hk) (off_eq (a := 384) rfl rfl hk) (off_eq (a := 3) rfl rfl hk)
  · exact piece_codeV (arg4.view.read (Elt Ideal) X_arg4) (arg7.view.read (Elt Ideal) X_arg7) (arg8.view.read (Elt Ideal) X_arg8) 2 k.val hk (inb_rows (a := 256) rfl hk (by norm_num)) (inb_rows (a := 256) rfl hk (by norm_num)) (inb_rows (a := 256) rfl hk (by norm_num)) (inb_scale (a := 2) rfl hk (by norm_num)) (off_eq (a := 256) rfl rfl hk) (off_eq (a := 256) rfl rfl hk) (off_eq (a := 256) rfl rfl hk) (off_eq (a := 2) rfl rfl hk)
  · exact piece_codeV (arg4.view.read (Elt Ideal) X_arg4) (arg7.view.read (Elt Ideal) X_arg7) (arg8.view.read (Elt Ideal) X_arg8) 1 k.val hk (inb_rows (a := 128) rfl hk (by norm_num)) (inb_rows (a := 128) rfl hk (by norm_num)) (inb_rows (a := 128) rfl hk (by norm_num)) (inb_scale (a := 1) rfl hk (by norm_num)) (off_eq (a := 128) rfl rfl hk) (off_eq (a := 128) rfl rfl hk) (off_eq (a := 128) rfl rfl hk) (off_eq (a := 1) rfl rfl hk)
  · exact piece_codeV (arg4.view.read (Elt Ideal) X_arg4) (arg7.view.read (Elt Ideal) X_arg7) (arg8.view.read (Elt Ideal) X_arg8) 0 k.val hk (inb_rows (a := 0) rfl hk (by norm_num)) (inb_rows (a := 0) rfl hk (by norm_num)) (inb_rows (a := 0) rfl hk (by norm_num)) (inb_scale (a := 0) rfl hk (by norm_num)) (off_eq (a := 0) rfl rfl hk) (off_eq (a := 0) rfl rfl hk) (off_eq (a := 0) rfl rfl hk) (off_eq (a := 0) rfl rfl hk)

/-- The stores to the update of the parameters. -/
theorem trip_delta (C1 C2 : EReal) (h1 : ∀ a l, (arg14.view.read (Elt Ideal) X_arg14) (ix3 0 a l) = C1) (h2 : ∀ a l, (arg14.view.read (Elt Ideal) X_arg14) (ix3 1 a l) = C2) :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 k).1, ∀ x, p.2 x = fDelta (N := 1024) (n := 8) rfl C1 C2 (arg3.view.read (Elt Ideal) X_arg3) (arg4.view.read (Elt Ideal) X_arg4) (arg5.view.read (Elt Ideal) X_arg5) (arg7.view.read (Elt Ideal) X_arg7) (arg6.view.read (Elt Ideal) X_arg6) (arg8.view.read (Elt Ideal) X_arg8) (p.1.emb x) := by
  have hk := trips_lt k
  unfold trip_k0_t1
  dsimp only
  sl_unfold_words
  intro p hp
  simp only [List.mem_cons, List.not_mem_nil, or_false] at hp
  rcases hp with rfl | rfl | rfl | rfl | rfl | rfl | rfl | rfl
  · exact piece_delta (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) 7 k.val hk (arg14.view.read (Elt Ideal) X_arg14) C1 C2 h1 h2 (inb_rows (a := 896) rfl hk (by norm_num)) (inb_rows (a := 896) rfl hk (by norm_num)) (inb_rows (a := 896) rfl hk (by norm_num)) (inb_scale (a := 7) rfl hk (by norm_num)) (inb_rows (a := 896) rfl hk (by norm_num)) (inb_scale (a := 7) rfl hk (by norm_num)) (inb_rows (a := 896) rfl hk (by norm_num)) _ _ (off_eq (a := 896) rfl rfl hk) (off_eq (a := 896) rfl rfl hk) (off_eq (a := 896) rfl rfl hk) (off_eq (a := 7) rfl rfl hk) (off_eq (a := 896) rfl rfl hk) (off_eq (a := 7) rfl rfl hk) (off_eq (a := 896) rfl rfl hk)
  · exact piece_delta (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) 6 k.val hk (arg14.view.read (Elt Ideal) X_arg14) C1 C2 h1 h2 (inb_rows (a := 768) rfl hk (by norm_num)) (inb_rows (a := 768) rfl hk (by norm_num)) (inb_rows (a := 768) rfl hk (by norm_num)) (inb_scale (a := 6) rfl hk (by norm_num)) (inb_rows (a := 768) rfl hk (by norm_num)) (inb_scale (a := 6) rfl hk (by norm_num)) (inb_rows (a := 768) rfl hk (by norm_num)) _ _ (off_eq (a := 768) rfl rfl hk) (off_eq (a := 768) rfl rfl hk) (off_eq (a := 768) rfl rfl hk) (off_eq (a := 6) rfl rfl hk) (off_eq (a := 768) rfl rfl hk) (off_eq (a := 6) rfl rfl hk) (off_eq (a := 768) rfl rfl hk)
  · exact piece_delta (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) 5 k.val hk (arg14.view.read (Elt Ideal) X_arg14) C1 C2 h1 h2 (inb_rows (a := 640) rfl hk (by norm_num)) (inb_rows (a := 640) rfl hk (by norm_num)) (inb_rows (a := 640) rfl hk (by norm_num)) (inb_scale (a := 5) rfl hk (by norm_num)) (inb_rows (a := 640) rfl hk (by norm_num)) (inb_scale (a := 5) rfl hk (by norm_num)) (inb_rows (a := 640) rfl hk (by norm_num)) _ _ (off_eq (a := 640) rfl rfl hk) (off_eq (a := 640) rfl rfl hk) (off_eq (a := 640) rfl rfl hk) (off_eq (a := 5) rfl rfl hk) (off_eq (a := 640) rfl rfl hk) (off_eq (a := 5) rfl rfl hk) (off_eq (a := 640) rfl rfl hk)
  · exact piece_delta (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) 4 k.val hk (arg14.view.read (Elt Ideal) X_arg14) C1 C2 h1 h2 (inb_rows (a := 512) rfl hk (by norm_num)) (inb_rows (a := 512) rfl hk (by norm_num)) (inb_rows (a := 512) rfl hk (by norm_num)) (inb_scale (a := 4) rfl hk (by norm_num)) (inb_rows (a := 512) rfl hk (by norm_num)) (inb_scale (a := 4) rfl hk (by norm_num)) (inb_rows (a := 512) rfl hk (by norm_num)) _ _ (off_eq (a := 512) rfl rfl hk) (off_eq (a := 512) rfl rfl hk) (off_eq (a := 512) rfl rfl hk) (off_eq (a := 4) rfl rfl hk) (off_eq (a := 512) rfl rfl hk) (off_eq (a := 4) rfl rfl hk) (off_eq (a := 512) rfl rfl hk)
  · exact piece_delta (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) 3 k.val hk (arg14.view.read (Elt Ideal) X_arg14) C1 C2 h1 h2 (inb_rows (a := 384) rfl hk (by norm_num)) (inb_rows (a := 384) rfl hk (by norm_num)) (inb_rows (a := 384) rfl hk (by norm_num)) (inb_scale (a := 3) rfl hk (by norm_num)) (inb_rows (a := 384) rfl hk (by norm_num)) (inb_scale (a := 3) rfl hk (by norm_num)) (inb_rows (a := 384) rfl hk (by norm_num)) _ _ (off_eq (a := 384) rfl rfl hk) (off_eq (a := 384) rfl rfl hk) (off_eq (a := 384) rfl rfl hk) (off_eq (a := 3) rfl rfl hk) (off_eq (a := 384) rfl rfl hk) (off_eq (a := 3) rfl rfl hk) (off_eq (a := 384) rfl rfl hk)
  · exact piece_delta (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) 2 k.val hk (arg14.view.read (Elt Ideal) X_arg14) C1 C2 h1 h2 (inb_rows (a := 256) rfl hk (by norm_num)) (inb_rows (a := 256) rfl hk (by norm_num)) (inb_rows (a := 256) rfl hk (by norm_num)) (inb_scale (a := 2) rfl hk (by norm_num)) (inb_rows (a := 256) rfl hk (by norm_num)) (inb_scale (a := 2) rfl hk (by norm_num)) (inb_rows (a := 256) rfl hk (by norm_num)) _ _ (off_eq (a := 256) rfl rfl hk) (off_eq (a := 256) rfl rfl hk) (off_eq (a := 256) rfl rfl hk) (off_eq (a := 2) rfl rfl hk) (off_eq (a := 256) rfl rfl hk) (off_eq (a := 2) rfl rfl hk) (off_eq (a := 256) rfl rfl hk)
  · exact piece_delta (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) 1 k.val hk (arg14.view.read (Elt Ideal) X_arg14) C1 C2 h1 h2 (inb_rows (a := 128) rfl hk (by norm_num)) (inb_rows (a := 128) rfl hk (by norm_num)) (inb_rows (a := 128) rfl hk (by norm_num)) (inb_scale (a := 1) rfl hk (by norm_num)) (inb_rows (a := 128) rfl hk (by norm_num)) (inb_scale (a := 1) rfl hk (by norm_num)) (inb_rows (a := 128) rfl hk (by norm_num)) _ _ (off_eq (a := 128) rfl rfl hk) (off_eq (a := 128) rfl rfl hk) (off_eq (a := 128) rfl rfl hk) (off_eq (a := 1) rfl rfl hk) (off_eq (a := 128) rfl rfl hk) (off_eq (a := 1) rfl rfl hk) (off_eq (a := 128) rfl rfl hk)
  · exact piece_delta (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) 0 k.val hk (arg14.view.read (Elt Ideal) X_arg14) C1 C2 h1 h2 (inb_rows (a := 0) rfl hk (by norm_num)) (inb_rows (a := 0) rfl hk (by norm_num)) (inb_rows (a := 0) rfl hk (by norm_num)) (inb_scale (a := 0) rfl hk (by norm_num)) (inb_rows (a := 0) rfl hk (by norm_num)) (inb_scale (a := 0) rfl hk (by norm_num)) (inb_rows (a := 0) rfl hk (by norm_num)) _ _ (off_eq (a := 0) rfl rfl hk) (off_eq (a := 0) rfl rfl hk) (off_eq (a := 0) rfl rfl hk) (off_eq (a := 0) rfl rfl hk) (off_eq (a := 0) rfl rfl hk) (off_eq (a := 0) rfl rfl hk) (off_eq (a := 0) rfl rfl hk)

end Cert.Adam

end
-- ==== Proof.Block.lean ====
/-
  WHAT ONE GRID POINT LEAVES IN ITS BLOCKS.

  The five trips of the loop cover the five result blocks, and every store writes the block's formula on its rectangle, so
  each block ends as its formula. At the first grid point the two coefficients are computed from the step; later points
  find them in the scratch.
-/
module

public import proofs.«01_k».proof.Proof.Gen.KernelIdeal.Frame
public import proofs.«01_k».proof.Proof.Trip

@[expose] public section

noncomputable section

open Idealize.ShloMosaic Idealize.ShloMosaic.TcCoe Idealize.SL.Sem
open Cert.KernelIdeal Cert.KernelIdeal.Gen

namespace Cert.Adam

/-- The scratch holds the coefficient `C1` in its first plane and `C2` in its second. -/
def Holds (S : Vec Ideal S2x8x128 .f32) (C1 C2 : EReal) : Prop :=
  ∀ (a : Fin 8) (l : Fin 128), S (ix3 0 a l) = C1 ∧ S (ix3 1 a l) = C2

/-- The coefficient of the first moment, as the first grid point stores it. -/
theorem coef_one (t : BitVec 32) (a : Fin 8) (l : Fin 128) : k0_pay3 (F := Ideal) t (ix3 0 a l) = kOne t := by
  pointwise [k0_pay3, k0_pay2, k0_pay1]
  simp only [kOne, kTwo, corrOne, corrTwo, one_eq, EReal.coe_one]
  rfl

/-- The coefficient of the eps term, as the first grid point stores it. -/
theorem coef_two (t : BitVec 32) (a : Fin 8) (l : Fin 128) : k0_pay4 (F := Ideal) t (ix3 0 a l) = kTwo t := by
  pointwise [k0_pay4, k0_pay2, k0_pay1]
  simp only [kOne, kTwo, corrOne, corrTwo, one_eq, EReal.coe_one]
  rfl

/-- Reading the step. -/
theorem step_ld (arg2 : Memref sig .tc .smem S1 .i32) (harg2 : arg2.IsWhole) (x0 : Vec Ideal S1 .i32) (inb) (j) :
    View.readAt (Elt Ideal) arg2.view (Rect.unit ![0] S1.size inb).toLoadRect (harg2.unread x0) j = x0 (ix1 0) := by
  rw [View.readAt_apply, harg2.read_unread]
  exact congrArg x0 (funext fun a => by
    match a with
    | ⟨0, _⟩ => exact Subsingleton.elim (α := Fin 1) _ _)

/-- The scratch after the first grid point, at its first plane. -/
theorem scratch_one (t : BitVec 32) (i0 i1) (a : Fin 8) (l : Fin 128) :
    View.canon (Val := Elt Ideal) (e := .f32) [(⟨Rect.unit (s := S2x8x128) ![1, 0, 0] S1x8x128.size i1, k0_pay4 (F := Ideal) t⟩ : View.Piece (Elt Ideal) S2x8x128 .f32),
      ⟨Rect.unit ![0, 0, 0] S1x8x128.size i0, k0_pay3 (F := Ideal) t⟩] (ix3 0 a l) = kOne t := by
  have e : (Rect.unit (s := S2x8x128) ![0, 0, 0] S1x8x128.size i0).emb (ix3 0 a l) = ix3 0 a l :=
    funext fun x => Fin.ext ((Rect.idx_unit_val (s := S2x8x128) _ _ i0 _ x).trans (by
      match x with
      | ⟨0, _⟩ => rfl
      | ⟨1, _⟩ => exact Nat.zero_add _
      | ⟨2, _⟩ => exact Nat.zero_add _))
  rw [View.canon_cons_of_not_mem, ← e, View.canon_cons_emb]
  · exact coef_one t a l
  · intro h
    obtain ⟨x, hx⟩ := LoadRect.exists_idx_of_mem _ h
    have h0 := congrArg (fun y : S2x8x128.Idx => (y 0).val) hx
    have h1 : 1 + (x 0).val = 0 := (Rect.idx_unit_val (s := S2x8x128) _ _ i1 x 0).symm.trans h0
    omega

/-- The scratch after the first grid point, at its second plane. -/
theorem scratch_two (t : BitVec 32) (i0 i1) (a : Fin 8) (l : Fin 128) :
    View.canon (Val := Elt Ideal) (e := .f32) [(⟨Rect.unit (s := S2x8x128) ![1, 0, 0] S1x8x128.size i1, k0_pay4 (F := Ideal) t⟩ : View.Piece (Elt Ideal) S2x8x128 .f32),
      ⟨Rect.unit ![0, 0, 0] S1x8x128.size i0, k0_pay3 (F := Ideal) t⟩] (ix3 1 a l) = kTwo t := by
  have e : (Rect.unit (s := S2x8x128) ![1, 0, 0] S1x8x128.size i1).emb (ix3 0 a l) = ix3 1 a l :=
    funext fun x => Fin.ext ((Rect.idx_unit_val (s := S2x8x128) _ _ i1 _ x).trans (by
      match x with
      | ⟨0, _⟩ => rfl
      | ⟨1, _⟩ => exact Nat.zero_add _
      | ⟨2, _⟩ => exact Nat.zero_add _))
  rw [← e, View.canon_cons_emb]
  exact coef_two t a l

section pieces

variable (𝒱 : Variants) (c : Dev nD) (bd : Option 𝒱.V) (i : grid0.Coords) (arg2 : Memref sig .tc .smem S1 .i32) (harg2 : arg2.IsWhole) (arg3 : Memref sig .tc .vmem S1024x640 .f32) (harg3 : arg3.IsWhole) (arg4 : Memref sig .tc .vmem S1024x640 .bf16) (harg4 : arg4.IsWhole) (arg5 : Memref sig .tc .vmem S1024x640 .fp8e4m3) (harg5 : arg5.IsWhole) (arg6 : Memref sig .tc .vmem S8x640 .f32) (harg6 : arg6.IsWhole) (arg7 : Memref sig .tc .vmem S1024x640 .fp8e5m2) (harg7 : arg7.IsWhole) (arg8 : Memref sig .tc .vmem S8x640 .f32) (harg8 : arg8.IsWhole) (arg9 : Memref sig .tc .vmem S1024x640 .f32) (harg9 : arg9.IsWhole) (arg10 : Memref sig .tc .vmem S1024x640 .fp8e4m3) (harg10 : arg10.IsWhole) (arg11 : Memref sig .tc .vmem S8x640 .f32) (harg11 : arg11.IsWhole) (arg12 : Memref sig .tc .vmem S1024x640 .fp8e5m2) (harg12 : arg12.IsWhole) (arg13 : Memref sig .tc .vmem S8x640 .f32) (harg13 : arg13.IsWhole) (arg14 : Memref sig .tc .vmem S2x8x128 .f32) (harg14 : arg14.IsWhole)

variable (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg14 : BufTy.Contents (Elt Ideal) arg14.view.ty)

/-- Every store of the loop to the parameters' update. -/
theorem loop_delta (C1 C2 : EReal) (h1 : ∀ a l, (arg14.view.read (Elt Ideal) X_arg14) (ix3 0 a l) = C1) (h2 : ∀ a l, (arg14.view.read (Elt Ideal) X_arg14) (ix3 1 a l) = C2) (n : ℕ) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 n).1, ∀ x, p.2 x = fDelta (N := 1024) (n := 8) rfl C1 C2 (arg3.view.read (Elt Ideal) X_arg3) (arg4.view.read (Elt Ideal) X_arg4) (arg5.view.read (Elt Ideal) X_arg5) (arg7.view.read (Elt Ideal) X_arg7) (arg6.view.read (Elt Ideal) X_arg6) (arg8.view.read (Elt Ideal) X_arg8) (p.1.emb x) := by
  induction n with
  | zero => intro p hp; exact absurd hp List.not_mem_nil
  | succ n ih =>
    by_cases hn : n < k0_t1_loop.trips
    · rw [show n + 1 = (⟨n, hn⟩ : Fin k0_t1_loop.trips).val + 1 from rfl, pb_k0_t1_succ]
      intro p hp x
      rcases List.mem_append.mp hp with h | h
      · exact trip_delta 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 ⟨n, hn⟩ C1 C2 h1 h2 p h x
      · exact ih p h x
    · rw [pb_k0_t1.eq_2]
      unfold pb_k0_t1Step
      rw [dif_neg hn]
      exact ih

/-- Every store of the loop to the first moment's codes. -/
theorem loop_codeM (n : ℕ) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 n).2.1, ∀ x, p.2 x = fCodeM (N := 1024) (n := 8) rfl (arg4.view.read (Elt Ideal) X_arg4) (arg5.view.read (Elt Ideal) X_arg5) (arg6.view.read (Elt Ideal) X_arg6) (p.1.emb x) := by
  induction n with
  | zero => intro p hp; exact absurd hp List.not_mem_nil
  | succ n ih =>
    by_cases hn : n < k0_t1_loop.trips
    · rw [show n + 1 = (⟨n, hn⟩ : Fin k0_t1_loop.trips).val + 1 from rfl, pb_k0_t1_succ]
      intro p hp x
      rcases List.mem_append.mp hp with h | h
      · exact trip_codeM 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 ⟨n, hn⟩ p h x
      · exact ih p h x
    · rw [pb_k0_t1.eq_2]
      unfold pb_k0_t1Step
      rw [dif_neg hn]
      exact ih

/-- Every store of the loop to the first moment's scales. -/
theorem loop_scaleM (n : ℕ) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 n).2.2.1, ∀ x, p.2 x = fScaleM (N := 1024) (n := 8) rfl (arg4.view.read (Elt Ideal) X_arg4) (arg5.view.read (Elt Ideal) X_arg5) (arg6.view.read (Elt Ideal) X_arg6) (p.1.emb x) := by
  induction n with
  | zero => intro p hp; exact absurd hp List.not_mem_nil
  | succ n ih =>
    by_cases hn : n < k0_t1_loop.trips
    · rw [show n + 1 = (⟨n, hn⟩ : Fin k0_t1_loop.trips).val + 1 from rfl, pb_k0_t1_succ]
      intro p hp x
      rcases List.mem_append.mp hp with h | h
      · exact trip_scaleM 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 ⟨n, hn⟩ p h x
      · exact ih p h x
    · rw [pb_k0_t1.eq_2]
      unfold pb_k0_t1Step
      rw [dif_neg hn]
      exact ih

/-- Every store of the loop to the second moment's codes. -/
theorem loop_codeV (n : ℕ) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 n).2.2.2.1, ∀ x, p.2 x = fCodeV (N := 1024) (n := 8) rfl (arg4.view.read (Elt Ideal) X_arg4) (arg7.view.read (Elt Ideal) X_arg7) (arg8.view.read (Elt Ideal) X_arg8) (p.1.emb x) := by
  induction n with
  | zero => intro p hp; exact absurd hp List.not_mem_nil
  | succ n ih =>
    by_cases hn : n < k0_t1_loop.trips
    · rw [show n + 1 = (⟨n, hn⟩ : Fin k0_t1_loop.trips).val + 1 from rfl, pb_k0_t1_succ]
      intro p hp x
      rcases List.mem_append.mp hp with h | h
      · exact trip_codeV 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 ⟨n, hn⟩ p h x
      · exact ih p h x
    · rw [pb_k0_t1.eq_2]
      unfold pb_k0_t1Step
      rw [dif_neg hn]
      exact ih

/-- Every store of the loop to the second moment's scales. -/
theorem loop_scaleV (n : ℕ) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 n).2.2.2.2, ∀ x, p.2 x = fScaleV (N := 1024) (n := 8) rfl (arg4.view.read (Elt Ideal) X_arg4) (arg7.view.read (Elt Ideal) X_arg7) (arg8.view.read (Elt Ideal) X_arg8) (p.1.emb x) := by
  induction n with
  | zero => intro p hp; exact absurd hp List.not_mem_nil
  | succ n ih =>
    by_cases hn : n < k0_t1_loop.trips
    · rw [show n + 1 = (⟨n, hn⟩ : Fin k0_t1_loop.trips).val + 1 from rfl, pb_k0_t1_succ]
      intro p hp x
      rcases List.mem_append.mp hp with h | h
      · exact trip_scaleV 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg14 ⟨n, hn⟩ p h x
      · exact ih p h x
    · rw [pb_k0_t1.eq_2]
      unfold pb_k0_t1Step
      rw [dif_neg hn]
      exact ih

end pieces

section blocks

variable (c : Dev nD) (i : grid0.Coords) (arg2 : Memref sig .tc .smem S1 .i32) (harg2 : arg2.IsWhole) (arg3 : Memref sig .tc .vmem S1024x640 .f32) (harg3 : arg3.IsWhole) (arg4 : Memref sig .tc .vmem S1024x640 .bf16) (harg4 : arg4.IsWhole) (arg5 : Memref sig .tc .vmem S1024x640 .fp8e4m3) (harg5 : arg5.IsWhole) (arg6 : Memref sig .tc .vmem S8x640 .f32) (harg6 : arg6.IsWhole) (arg7 : Memref sig .tc .vmem S1024x640 .fp8e5m2) (harg7 : arg7.IsWhole) (arg8 : Memref sig .tc .vmem S8x640 .f32) (harg8 : arg8.IsWhole) (arg9 : Memref sig .tc .vmem S1024x640 .f32) (harg9 : arg9.IsWhole) (arg10 : Memref sig .tc .vmem S1024x640 .fp8e4m3) (harg10 : arg10.IsWhole) (arg11 : Memref sig .tc .vmem S8x640 .f32) (harg11 : arg11.IsWhole) (arg12 : Memref sig .tc .vmem S1024x640 .fp8e5m2) (harg12 : arg12.IsWhole) (arg13 : Memref sig .tc .vmem S8x640 .f32) (harg13 : arg13.IsWhole) (arg14 : Memref sig .tc .vmem S2x8x128 .f32) (harg14 : arg14.IsWhole)

variable (x0 : Vec Ideal S1 .i32) (x1 : Vec Ideal S1024x640 .f32) (x2 : Vec Ideal S1024x640 .bf16) (x3 : Vec Ideal S1024x640 .fp8e4m3)
  (x4 : Vec Ideal S8x640 .f32) (x5 : Vec Ideal S1024x640 .fp8e5m2) (x6 : Vec Ideal S8x640 .f32) (xs0 : Vec Ideal S2x8x128 .f32)

/-- The parameters' update after the first grid point. -/
theorem blockA_delta (hc : cond0_0 i) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 = fDelta (N := 1024) (n := 8) rfl (kOne (x0 (ix1 0))) (kTwo (x0 (ix1 0))) x1 x2 x3 x5 x4 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)]
  funext y
  refine View.canon_apply_of_pieces _ _ ?_ y (cover0_A_7 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 y)
  have hl := loop_delta Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (arg14.view.writes (Elt Ideal) arg14.view.junk (kernelRun0_A.sl.HS0_2 c arg2 harg2 x0)) (kOne (x0 (ix1 0))) (kTwo (x0 (ix1 0))) ?_ ?_ (Scf.trips (0#32) (Scalar.addi 0#32 5#32) 1#32)
  · rw [harg3.read_unread, harg4.read_unread, harg5.read_unread, harg6.read_unread, harg7.read_unread, harg8.read_unread] at hl
    exact hl
  · intro a l
    refine (congrFun (View.read_writes_eq_canon arg14.view _ _ (show ∀ y, ∃ p ∈ kernelRun0_A.sl.HS0_2 (F := Ideal) c arg2 harg2 x0, y ∈ p.1.set from scover0_A_0 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)) _).trans ?_
    unfold kernelRun0_A.sl.HS0_2
    sl_unfold_words
    rw [step_ld]
    exact scratch_one _ _ _ a l
  · intro a l
    refine (congrFun (View.read_writes_eq_canon arg14.view _ _ (show ∀ y, ∃ p ∈ kernelRun0_A.sl.HS0_2 (F := Ideal) c arg2 harg2 x0, y ∈ p.1.set from scover0_A_0 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)) _).trans ?_
    unfold kernelRun0_A.sl.HS0_2
    sl_unfold_words
    rw [step_ld]
    exact scratch_two _ _ _ a l

/-- The first moment's codes after the first grid point. -/
theorem blockA_codeM (hc : cond0_0 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 = fCodeM (N := 1024) (n := 8) rfl x2 x3 x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)]
  funext y
  refine View.canon_apply_of_pieces _ _ ?_ y (cover0_A_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 y)
  have hl := loop_codeM Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (arg14.view.writes (Elt Ideal) arg14.view.junk (kernelRun0_A.sl.HS0_2 c arg2 harg2 x0)) (Scf.trips (0#32) (Scalar.addi 0#32 5#32) 1#32)
  rw [harg4.read_unread, harg5.read_unread, harg6.read_unread] at hl
  exact hl

/-- The first moment's scales after the first grid point. -/
theorem blockA_scaleM (hc : cond0_0 i) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 = fScaleM (N := 1024) (n := 8) rfl x2 x3 x4 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)]
  funext y
  refine View.canon_apply_of_pieces _ _ ?_ y (cover0_A_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 y)
  have hl := loop_scaleM Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (arg14.view.writes (Elt Ideal) arg14.view.junk (kernelRun0_A.sl.HS0_2 c arg2 harg2 x0)) (Scf.trips (0#32) (Scalar.addi 0#32 5#32) 1#32)
  rw [harg4.read_unread, harg5.read_unread, harg6.read_unread] at hl
  exact hl

/-- The second moment's codes after the first grid point. -/
theorem blockA_codeV (hc : cond0_0 i) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 = fCodeV (N := 1024) (n := 8) rfl x2 x5 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)]
  funext y
  refine View.canon_apply_of_pieces _ _ ?_ y (cover0_A_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 y)
  have hl := loop_codeV Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (arg14.view.writes (Elt Ideal) arg14.view.junk (kernelRun0_A.sl.HS0_2 c arg2 harg2 x0)) (Scf.trips (0#32) (Scalar.addi 0#32 5#32) 1#32)
  rw [harg4.read_unread, harg7.read_unread, harg8.read_unread] at hl
  exact hl

/-- The second moment's scales after the first grid point. -/
theorem blockA_scaleV (hc : cond0_0 i) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 = fScaleV (N := 1024) (n := 8) rfl x2 x5 x6 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)]
  funext y
  refine View.canon_apply_of_pieces _ _ ?_ y (cover0_A_11 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 y)
  have hl := loop_scaleV Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (arg14.view.writes (Elt Ideal) arg14.view.junk (kernelRun0_A.sl.HS0_2 c arg2 harg2 x0)) (Scf.trips (0#32) (Scalar.addi 0#32 5#32) 1#32)
  rw [harg4.read_unread, harg7.read_unread, harg8.read_unread] at hl
  exact hl

/-- The parameters' update after a later grid point. -/
theorem blockB_delta (hc : ¬cond0_0 i) (C1 C2 : EReal) (h1 : ∀ a l, xs0 (ix3 0 a l) = C1) (h2 : ∀ a l, xs0 (ix3 1 a l) = C2) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 = fDelta (N := 1024) (n := 8) rfl C1 C2 x1 x2 x3 x5 x4 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0)]
  funext y
  refine View.canon_apply_of_pieces _ _ ?_ y (cover0_B_7 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 y)
  have hl := loop_delta Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (harg14.unread xs0) C1 C2 ?_ ?_ (Scf.trips (0#32) (Scalar.addi 0#32 5#32) 1#32)
  · rw [harg3.read_unread, harg4.read_unread, harg5.read_unread, harg6.read_unread, harg7.read_unread, harg8.read_unread] at hl
    exact hl
  · intro a l; rw [harg14.read_unread]; exact h1 a l
  · intro a l; rw [harg14.read_unread]; exact h2 a l

/-- The first moment's codes after a later grid point. -/
theorem blockB_codeM (hc : ¬cond0_0 i) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 = fCodeM (N := 1024) (n := 8) rfl x2 x3 x4 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0)]
  funext y
  refine View.canon_apply_of_pieces _ _ ?_ y (cover0_B_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 y)
  have hl := loop_codeM Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (harg14.unread xs0) (Scf.trips (0#32) (Scalar.addi 0#32 5#32) 1#32)
  rw [harg4.read_unread, harg5.read_unread, harg6.read_unread] at hl
  exact hl

/-- The first moment's scales after a later grid point. -/
theorem blockB_scaleM (hc : ¬cond0_0 i) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 = fScaleM (N := 1024) (n := 8) rfl x2 x3 x4 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0)]
  funext y
  refine View.canon_apply_of_pieces _ _ ?_ y (cover0_B_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 y)
  have hl := loop_scaleM Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (harg14.unread xs0) (Scf.trips (0#32) (Scalar.addi 0#32 5#32) 1#32)
  rw [harg4.read_unread, harg5.read_unread, harg6.read_unread] at hl
  exact hl

/-- The second moment's codes after a later grid point. -/
theorem blockB_codeV (hc : ¬cond0_0 i) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 = fCodeV (N := 1024) (n := 8) rfl x2 x5 x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0)]
  funext y
  refine View.canon_apply_of_pieces _ _ ?_ y (cover0_B_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 y)
  have hl := loop_codeV Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (harg14.unread xs0) (Scf.trips (0#32) (Scalar.addi 0#32 5#32) 1#32)
  rw [harg4.read_unread, harg7.read_unread, harg8.read_unread] at hl
  exact hl

/-- The second moment's scales after a later grid point. -/
theorem blockB_scaleV (hc : ¬cond0_0 i) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 = fScaleV (N := 1024) (n := 8) rfl x2 x5 x6 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0)]
  funext y
  refine View.canon_apply_of_pieces _ _ ?_ y (cover0_B_11 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0 y)
  have hl := loop_scaleV Variants.none c none i arg2 harg2 arg3 harg3 arg4 harg4 arg5 harg5 arg6 harg6 arg7 harg7 arg8 harg8 arg9 harg9 arg10 harg10 arg11 harg11 arg12 harg12 arg13 harg13 arg14 harg14 (harg3.unread x1) (harg4.unread x2) (harg5.unread x3) (harg6.unread x4) (harg7.unread x5) (harg8.unread x6) (harg14.unread xs0) (Scf.trips (0#32) (Scalar.addi 0#32 5#32) 1#32)
  rw [harg4.read_unread, harg7.read_unread, harg8.read_unread] at hl
  exact hl

/-- The scratch the first grid point leaves, first plane. -/
theorem scratchA_one (hc : cond0_0 i) (a : Fin 8) (l : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 (ix3 0 a l) = kOne (x0 (ix1 0)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)]
  refine Eq.trans (congrFun (congrArg _ (show _ = kernelRun0_A.sl.HS0_2 c arg2 harg2 x0 from rfl)) _) ?_
  unfold kernelRun0_A.sl.HS0_2
  sl_unfold_words
  rw [step_ld]
  exact scratch_one _ _ _ a l

/-- The scratch the first grid point leaves, second plane. -/
theorem scratchA_two (hc : cond0_0 i) (a : Fin 8) (l : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 (ix3 1 a l) = kTwo (x0 (ix1 0)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6)]
  refine Eq.trans (congrFun (congrArg _ (show _ = kernelRun0_A.sl.HS0_2 c arg2 harg2 x0 from rfl)) _) ?_
  unfold kernelRun0_A.sl.HS0_2
  sl_unfold_words
  rw [step_ld]
  exact scratch_two _ _ _ a l

/-- The scratch the first grid point leaves. -/
theorem scratchA_holds (hc : cond0_0 i) :
    Holds (sout0_A_0 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6) (kOne (x0 (ix1 0))) (kTwo (x0 (ix1 0))) :=
  fun a l => ⟨scratchA_one c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 hc a l, scratchA_two c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 hc a l⟩

/-- A later grid point leaves the scratch as it found it. -/
theorem scratchB_holds (hc : ¬cond0_0 i) (C1 C2 : EReal) (h : Holds xs0 C1 C2) :
    Holds (sout0_B_0 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xs0) C1 C2 := h

end blocks

end Cert.Adam

end
-- ==== Proof.Whole.lean ====
/-
  THE KERNEL'S RESULTS AS WHOLE ARRAYS.

  Grid point `t` works on block `(t / 8, t % 8)` of every array. A block's formulas are those of the whole arrays, read in
  the block, so the five result arrays are `fDelta`, `fCodeM`, `fScaleM`, `fCodeV`, `fScaleV` of the argument arrays.
-/
module

public import proofs.«01_k».proof.Proof.Gen.KernelIdeal.Value
public import proofs.«01_k».proof.Proof.Block

@[expose] public section

noncomputable section

open Idealize.ShloMosaic Idealize.ShloMosaic.TcCoe Idealize.SL.Sem
open Cert.KernelIdeal Cert.KernelIdeal.Gen Cert.KernelIdeal.Value

namespace Cert.Adam

/-! ## Blocks of an array -/

/-- Block `(i, j)` of an array of rows. -/
def blkRows {α : Type} (X : Ix 14336 5120 → α) (i : Fin 14) (j : Fin 8) : Ix 1024 640 → α := fun y =>
  X (ix2 ⟨1024 * i.val + (y 0).val, by have : (y 0).val < 1024 := (y 0).isLt; omega⟩
    ⟨640 * j.val + (y 1).val, by have : (y 1).val < 640 := (y 1).isLt; omega⟩)

/-- Block `(i, j)` of an array of scales. -/
def blkScale {α : Type} (X : Ix 112 5120 → α) (i : Fin 14) (j : Fin 8) : Ix 8 640 → α := fun y =>
  X (ix2 ⟨8 * i.val + (y 0).val, by have : (y 0).val < 8 := (y 0).isLt; omega⟩
    ⟨640 * j.val + (y 1).val, by have : (y 1).val < 640 := (y 1).isLt; omega⟩)

variable (i : Fin 14) (j : Fin 8)

/-- A group of a block is a group of the array. -/
theorem gcol_blk {α : Type} (X : Ix 14336 5120 → α) (q : Fin 8) (l : Fin 640) :
    gcol (N := 1024) (n := 8) rfl (blkRows X i j) q l
      = gcol (N := 14336) (n := 112) rfl X ⟨8 * i.val + q.val, by omega⟩ ⟨640 * j.val + l.val, by omega⟩ := by
  funext r
  unfold gcol blkRows
  refine congrArg X (funext fun a => Fin.ext ?_)
  match a with
  | ⟨0, _⟩ => show 1024 * i.val + (128 * q.val + r.val) = 128 * (8 * i.val + q.val) + r.val; omega
  | ⟨1, _⟩ => rfl

section
variable (C1 C2 : EReal) (P G MC VC : Ix 14336 5120 → EReal) (MS VS : Ix 112 5120 → EReal)

theorem gM_blk (q : Fin 8) (l : Fin 640) :
    gM (N := 1024) (n := 8) rfl (blkRows G i j) (blkRows MC i j) (blkScale MS i j) q l
      = gM (N := 14336) (n := 112) rfl G MC MS ⟨8 * i.val + q.val, by omega⟩ ⟨640 * j.val + l.val, by omega⟩ := by
  unfold gM
  rw [gcol_blk, gcol_blk]
  rfl

theorem gV_blk (q : Fin 8) (l : Fin 640) :
    gV (N := 1024) (n := 8) rfl (blkRows G i j) (blkRows VC i j) (blkScale VS i j) q l
      = gV (N := 14336) (n := 112) rfl G VC VS ⟨8 * i.val + q.val, by omega⟩ ⟨640 * j.val + l.val, by omega⟩ := by
  unfold gV
  rw [gcol_blk, gcol_blk]
  rfl

theorem grp_blk (y : Ix 1024 640) (h0) (h1) :
    grp (N := 14336) (n := 112) rfl (ix2 (⟨1024 * i.val + (y 0).val, h0⟩ : Fin 14336) (⟨640 * j.val + (y 1).val, h1⟩ : Fin 5120))
      = ⟨8 * i.val + (grp (N := 1024) (n := 8) rfl y).val, by omega⟩ :=
  Fin.ext (show (1024 * i.val + (y 0).val) / 128 = 8 * i.val + (y 0).val / 128 by omega)

theorem row_blk (y : Ix 1024 640) (h0) (h1) :
    row (N := 14336) (ix2 (⟨1024 * i.val + (y 0).val, h0⟩ : Fin 14336) (⟨640 * j.val + (y 1).val, h1⟩ : Fin 5120)) = row y :=
  Fin.ext (show (1024 * i.val + (y 0).val) % 128 = (y 0).val % 128 by omega)

theorem fScaleM_blk : fScaleM (N := 1024) (n := 8) rfl (blkRows G i j) (blkRows MC i j) (blkScale MS i j)
    = blkScale (fScaleM (N := 14336) (n := 112) rfl G MC MS) i j := by
  funext z
  unfold fScaleM
  exact congrArg (fun f => kScale (ratioM f)) (gM_blk i j G MC MS (z 0) (z 1))

theorem fScaleV_blk : fScaleV (N := 1024) (n := 8) rfl (blkRows G i j) (blkRows VC i j) (blkScale VS i j)
    = blkScale (fScaleV (N := 14336) (n := 112) rfl G VC VS) i j := by
  funext z
  unfold fScaleV
  exact congrArg (fun f => kScale (ratioV f)) (gV_blk i j G VC VS (z 0) (z 1))

theorem fCodeM_blk : fCodeM (N := 1024) (n := 8) rfl (blkRows G i j) (blkRows MC i j) (blkScale MS i j)
    = blkRows (fCodeM (N := 14336) (n := 112) rfl G MC MS) i j := by
  funext y
  unfold blkRows fCodeM
  rw [grp_blk, row_blk]
  exact congrArg (fun f => codeM (f (row y)) (kInv (ratioM f))) (gM_blk i j G MC MS (grp rfl y) (y 1))

theorem fCodeV_blk : fCodeV (N := 1024) (n := 8) rfl (blkRows G i j) (blkRows VC i j) (blkScale VS i j)
    = blkRows (fCodeV (N := 14336) (n := 112) rfl G VC VS) i j := by
  funext y
  unfold blkRows fCodeV
  rw [grp_blk, row_blk]
  exact congrArg (fun f => codeV (f (row y)) (kInv (ratioV f))) (gV_blk i j G VC VS (grp rfl y) (y 1))

theorem fDelta_blk : fDelta (N := 1024) (n := 8) rfl C1 C2 (blkRows P i j) (blkRows G i j) (blkRows MC i j) (blkRows VC i j)
      (blkScale MS i j) (blkScale VS i j)
    = blkRows (fDelta (N := 14336) (n := 112) rfl C1 C2 P G MC VC MS VS) i j := by
  funext y
  have eM := gM_blk i j G MC MS (grp rfl y) (y 1)
  have eV := gV_blk i j G VC VS (grp rfl y) (y 1)
  unfold blkRows fDelta
  rw [grp_blk, row_blk]
  exact congrArg₂ (fun f g => kDelta C1 C2 (f (row y)) (g (row y)) (blkRows P i j y)) eM eV

end

/-! ## What the kernel reads -/

variable (m : (ℓ : Loc nD τ sig) → Buf (Elt Ideal) ℓ) (c : Dev nD)

/-- The arguments: parameters, gradient, codes and scales of the two moments, step. -/
abbrev argP : Ix 14336 5120 → EReal := m ((c : Thread nD τ).loc main_arg0)
abbrev argG : Ix 14336 5120 → EReal := m ((c : Thread nD τ).loc main_arg1)
abbrev argMC : Ix 14336 5120 → EReal := m ((c : Thread nD τ).loc main_arg2)
abbrev argMS : Ix 112 5120 → EReal := m ((c : Thread nD τ).loc main_arg3)
abbrev argVC : Ix 14336 5120 → EReal := m ((c : Thread nD τ).loc main_arg4)
abbrev argVS : Ix 112 5120 → EReal := m ((c : Thread nD τ).loc main_arg5)
abbrev argT : BitVec 32 := (m ((c : Thread nD τ).loc main_arg6) : S_.Idx → BitVec 32) (fun a => a.elim0)

/-- The row and the column of blocks of a grid point. -/
def ptI (t : Fin cfg0.N) : Fin 14 := ⟨t.val / 8, by have := lt_of_lt_of_eq t.isLt (show cfg0.N = 112 from N_0); omega⟩
def ptJ (t : Fin cfg0.N) : Fin 8 := ⟨t.val % 8, Nat.mod_lt _ (by norm_num)⟩

theorem idx_in1 : ∀ t : Fin cfg0.N, win0_1.index t (0 : Fin 2) = t.val / 8 ∧ win0_1.index t (1 : Fin 2) = t.val % 8 :=
  (by decide +kernel : ∀ t : Fin grid0.N, _)

theorem blk_in1 (t : Fin cfg0.N) : iblk m c 1 t = blkRows (argP m c) (ptI t) (ptJ t) := by
  obtain ⟨e0, e1⟩ := idx_in1 t
  funext y
  unfold iblk
  rw [View.read_apply]
  show V m c main_arg0 _ = _
  rw [V_main_arg0]
  refine congrArg (argP m c) (funext fun a => Fin.ext ?_)
  match a with
  | ⟨0, _⟩ => show win0_1.index t (0 : Fin 2) * 1024 + 1 * (y 0).val = 1024 * (t.val / 8) + (y 0).val; omega
  | ⟨1, _⟩ => show win0_1.index t (1 : Fin 2) * 640 + 1 * (y 1).val = 640 * (t.val % 8) + (y 1).val; omega

theorem idx_in2 : ∀ t : Fin cfg0.N, win0_2.index t (0 : Fin 2) = t.val / 8 ∧ win0_2.index t (1 : Fin 2) = t.val % 8 :=
  (by decide +kernel : ∀ t : Fin grid0.N, _)

theorem blk_in2 (t : Fin cfg0.N) : iblk m c 2 t = blkRows (argG m c) (ptI t) (ptJ t) := by
  obtain ⟨e0, e1⟩ := idx_in2 t
  funext y
  unfold iblk
  rw [View.read_apply]
  show V m c main_arg1 _ = _
  rw [V_main_arg1]
  refine congrArg (argG m c) (funext fun a => Fin.ext ?_)
  match a with
  | ⟨0, _⟩ => show win0_2.index t (0 : Fin 2) * 1024 + 1 * (y 0).val = 1024 * (t.val / 8) + (y 0).val; omega
  | ⟨1, _⟩ => show win0_2.index t (1 : Fin 2) * 640 + 1 * (y 1).val = 640 * (t.val % 8) + (y 1).val; omega

theorem idx_in3 : ∀ t : Fin cfg0.N, win0_3.index t (0 : Fin 2) = t.val / 8 ∧ win0_3.index t (1 : Fin 2) = t.val % 8 :=
  (by decide +kernel : ∀ t : Fin grid0.N, _)

theorem blk_in3 (t : Fin cfg0.N) : iblk m c 3 t = blkRows (argMC m c) (ptI t) (ptJ t) := by
  obtain ⟨e0, e1⟩ := idx_in3 t
  funext y
  unfold iblk
  rw [View.read_apply]
  show V m c main_arg2 _ = _
  rw [V_main_arg2]
  refine congrArg (argMC m c) (funext fun a => Fin.ext ?_)
  match a with
  | ⟨0, _⟩ => show win0_3.index t (0 : Fin 2) * 1024 + 1 * (y 0).val = 1024 * (t.val / 8) + (y 0).val; omega
  | ⟨1, _⟩ => show win0_3.index t (1 : Fin 2) * 640 + 1 * (y 1).val = 640 * (t.val % 8) + (y 1).val; omega

theorem idx_in4 : ∀ t : Fin cfg0.N, win0_4.index t (0 : Fin 2) = t.val / 8 ∧ win0_4.index t (1 : Fin 2) = t.val % 8 :=
  (by decide +kernel : ∀ t : Fin grid0.N, _)

theorem blk_in4 (t : Fin cfg0.N) : iblk m c 4 t = blkScale (argMS m c) (ptI t) (ptJ t) := by
  obtain ⟨e0, e1⟩ := idx_in4 t
  funext y
  unfold iblk
  rw [View.read_apply]
  show V m c main_arg3 _ = _
  rw [V_main_arg3]
  refine congrArg (argMS m c) (funext fun a => Fin.ext ?_)
  match a with
  | ⟨0, _⟩ => show win0_4.index t (0 : Fin 2) * 8 + 1 * (y 0).val = 8 * (t.val / 8) + (y 0).val; omega
  | ⟨1, _⟩ => show win0_4.index t (1 : Fin 2) * 640 + 1 * (y 1).val = 640 * (t.val % 8) + (y 1).val; omega

theorem idx_in5 : ∀ t : Fin cfg0.N, win0_5.index t (0 : Fin 2) = t.val / 8 ∧ win0_5.index t (1 : Fin 2) = t.val % 8 :=
  (by decide +kernel : ∀ t : Fin grid0.N, _)

theorem blk_in5 (t : Fin cfg0.N) : iblk m c 5 t = blkRows (argVC m c) (ptI t) (ptJ t) := by
  obtain ⟨e0, e1⟩ := idx_in5 t
  funext y
  unfold iblk
  rw [View.read_apply]
  show V m c main_arg4 _ = _
  rw [V_main_arg4]
  refine congrArg (argVC m c) (funext fun a => Fin.ext ?_)
  match a with
  | ⟨0, _⟩ => show win0_5.index t (0 : Fin 2) * 1024 + 1 * (y 0).val = 1024 * (t.val / 8) + (y 0).val; omega
  | ⟨1, _⟩ => show win0_5.index t (1 : Fin 2) * 640 + 1 * (y 1).val = 640 * (t.val % 8) + (y 1).val; omega

theorem idx_in6 : ∀ t : Fin cfg0.N, win0_6.index t (0 : Fin 2) = t.val / 8 ∧ win0_6.index t (1 : Fin 2) = t.val % 8 :=
  (by decide +kernel : ∀ t : Fin grid0.N, _)

theorem blk_in6 (t : Fin cfg0.N) : iblk m c 6 t = blkScale (argVS m c) (ptI t) (ptJ t) := by
  obtain ⟨e0, e1⟩ := idx_in6 t
  funext y
  unfold iblk
  rw [View.read_apply]
  show V m c main_arg5 _ = _
  rw [V_main_arg5]
  refine congrArg (argVS m c) (funext fun a => Fin.ext ?_)
  match a with
  | ⟨0, _⟩ => show win0_6.index t (0 : Fin 2) * 8 + 1 * (y 0).val = 8 * (t.val / 8) + (y 0).val; omega
  | ⟨1, _⟩ => show win0_6.index t (1 : Fin 2) * 640 + 1 * (y 1).val = 640 * (t.val % 8) + (y 1).val; omega

theorem V_step : (V m c main_v0 : S1.Idx → BitVec 32) (ix1 0) = argT m c := by
  have e := congrFun (StableHlo.reshape_result (Val := Elt Ideal) main_arg6 main_v0 rfl shapeCasts_S_S1 (by decide) (by decide) (fun b => m (c, b))) (ix1 (0 : Fin 1))
  refine e.trans (congrArg (m ((c : Thread nD τ).loc main_arg6) : S_.Idx → BitVec 32) (funext fun a => a.elim0))

/-- The step, at every grid point. -/
theorem blk_in0 (t : Fin cfg0.N) : (iblk m c 0 t : S1.Idx → BitVec 32) (ix1 0) = argT m c := by
  unfold iblk
  rw [View.read_apply]
  refine Eq.trans ?_ (V_step m c)
  show V m c main_v0 _ = V m c main_v0 _
  exact congrArg (V m c main_v0 : S1.Idx → BitVec 32) (funext fun a => by
    match a with
    | ⟨0, _⟩ => exact Subsingleton.elim (α := Fin 1) _ _)

/-! ## The scratch and the blocks at every grid point -/

/-- From the first grid point on the scratch holds the two coefficients of the step. -/
theorem scratch_at : ∀ (n : ℕ) (t : Fin cfg0.N), t.val = n →
    Holds (outsAt0 m c t.val t.isLt).2.2.2.2.2 (kOne (argT m c)) (kTwo (argT m c)) := by
  intro n
  have hN : cfg0.N = 112 := N_0
  induction n with
  | zero =>
    intro t ht
    rw [outsAt0_A m c t (by rw [ht]), ← blk_in0 m c t]
    dsimp only
    apply scratchA_holds
  | succ n ih =>
    intro t ht
    have hB : ¬t.val % 112 = 0 := by have := t.isLt; omega
    have k := ih ⟨t.val - 1, by have := t.isLt; omega⟩ (by dsimp only; omega)
    dsimp only at k
    rw [outsAt0_B m c t hB]
    dsimp only
    apply scratchB_holds
    exact k

/-- The parameters' update after grid point `t`. -/
theorem delta_at (t : Fin cfg0.N) :
    (outsAt0 m c t.val t.isLt).1 = blkRows (fDelta (N := 14336) (n := 112) rfl (kOne (argT m c)) (kTwo (argT m c)) (argP m c) (argG m c) (argMC m c) (argVC m c) (argMS m c) (argVS m c)) (ptI t) (ptJ t) := by
  rw [← fDelta_blk]
  by_cases h0 : t.val % 112 = 0
  · rw [outsAt0_A m c t h0]
    refine (blockA_delta ..).trans ?_
    rw [blk_in1, blk_in2, blk_in3, blk_in5, blk_in4, blk_in6, blk_in0]
  · rw [outsAt0_B m c t h0]
    refine (blockB_delta (C1 := kOne (argT m c)) (C2 := kTwo (argT m c)) (h1 := fun a l => (scratch_at m c _ ⟨t.val - 1, by have := t.isLt; omega⟩ rfl a l).1) (h2 := fun a l => (scratch_at m c _ ⟨t.val - 1, by have := t.isLt; omega⟩ rfl a l).2) ..).trans ?_
    rw [blk_in1, blk_in2, blk_in3, blk_in5, blk_in4, blk_in6]

/-- The parameters' update, the whole array. -/
theorem whole_delta : G7 m c = fDelta (N := 14336) (n := 112) rfl (kOne (argT m c)) (kTwo (argT m c)) (argP m c) (argG m c) (argMC m c) (argVC m c) (argMS m c) (argVS m c) := by
  funext i
  have h0 : (i 0).val < 14336 := (i 0).isLt
  have h1 : (i 1).val < 5120 := (i 1).isLt
  have hN : cfg0.N = 112 := N_0
  have hp : pt7Of i < cfg0.N := by
    show 8 * ((i 0).val / 1024 - 0) + 1 * ((i 1).val / 640 - 0) < cfg0.N
    omega
  have e := congrFun (delta_at m c ⟨pt7Of i, hp⟩) (loc7Of i)
  dsimp only at e
  rw [outsAt0_sweep] at e
  unfold G7
  rw [dif_pos hp]
  refine e.trans ?_
  unfold blkRows
  refine congrArg (fDelta (N := 14336) (n := 112) rfl (kOne (argT m c)) (kTwo (argT m c)) (argP m c) (argG m c) (argMC m c) (argVC m c) (argMS m c) (argVS m c)) (funext fun a => Fin.ext ?_)
  match a with
  | ⟨0, _⟩ =>
    show 1024 * ((8 * ((i 0).val / 1024 - 0) + 1 * ((i 1).val / 640 - 0)) / 8) + (i 0).val % 1024 = (i 0).val
    omega
  | ⟨1, _⟩ =>
    show 640 * ((8 * ((i 0).val / 1024 - 0) + 1 * ((i 1).val / 640 - 0)) % 8) + (i 1).val % 640 = (i 1).val
    omega

/-- The first moment's codes after grid point `t`. -/
theorem codeM_at (t : Fin cfg0.N) :
    (outsAt0 m c t.val t.isLt).2.1 = blkRows (fCodeM (N := 14336) (n := 112) rfl (argG m c) (argMC m c) (argMS m c)) (ptI t) (ptJ t) := by
  rw [← fCodeM_blk]
  by_cases h0 : t.val % 112 = 0
  · rw [outsAt0_A m c t h0]
    refine (blockA_codeM ..).trans ?_
    rw [blk_in2, blk_in3, blk_in4]
  · rw [outsAt0_B m c t h0]
    refine (blockB_codeM ..).trans ?_
    rw [blk_in2, blk_in3, blk_in4]

/-- The first moment's codes, the whole array. -/
theorem whole_codeM : G8 m c = fCodeM (N := 14336) (n := 112) rfl (argG m c) (argMC m c) (argMS m c) := by
  funext i
  have h0 : (i 0).val < 14336 := (i 0).isLt
  have h1 : (i 1).val < 5120 := (i 1).isLt
  have hN : cfg0.N = 112 := N_0
  have hp : pt8Of i < cfg0.N := by
    show 8 * ((i 0).val / 1024 - 0) + 1 * ((i 1).val / 640 - 0) < cfg0.N
    omega
  have e := congrFun (codeM_at m c ⟨pt8Of i, hp⟩) (loc8Of i)
  dsimp only at e
  rw [outsAt0_sweep] at e
  unfold G8
  rw [dif_pos hp]
  refine e.trans ?_
  unfold blkRows
  refine congrArg (fCodeM (N := 14336) (n := 112) rfl (argG m c) (argMC m c) (argMS m c)) (funext fun a => Fin.ext ?_)
  match a with
  | ⟨0, _⟩ =>
    show 1024 * ((8 * ((i 0).val / 1024 - 0) + 1 * ((i 1).val / 640 - 0)) / 8) + (i 0).val % 1024 = (i 0).val
    omega
  | ⟨1, _⟩ =>
    show 640 * ((8 * ((i 0).val / 1024 - 0) + 1 * ((i 1).val / 640 - 0)) % 8) + (i 1).val % 640 = (i 1).val
    omega

/-- The first moment's scales after grid point `t`. -/
theorem scaleM_at (t : Fin cfg0.N) :
    (outsAt0 m c t.val t.isLt).2.2.1 = blkScale (fScaleM (N := 14336) (n := 112) rfl (argG m c) (argMC m c) (argMS m c)) (ptI t) (ptJ t) := by
  rw [← fScaleM_blk]
  by_cases h0 : t.val % 112 = 0
  · rw [outsAt0_A m c t h0]
    refine (blockA_scaleM ..).trans ?_
    rw [blk_in2, blk_in3, blk_in4]
  · rw [outsAt0_B m c t h0]
    refine (blockB_scaleM ..).trans ?_
    rw [blk_in2, blk_in3, blk_in4]

/-- The first moment's scales, the whole array. -/
theorem whole_scaleM : G9 m c = fScaleM (N := 14336) (n := 112) rfl (argG m c) (argMC m c) (argMS m c) := by
  funext i
  have h0 : (i 0).val < 112 := (i 0).isLt
  have h1 : (i 1).val < 5120 := (i 1).isLt
  have hN : cfg0.N = 112 := N_0
  have hp : pt9Of i < cfg0.N := by
    show 8 * ((i 0).val / 8 - 0) + 1 * ((i 1).val / 640 - 0) < cfg0.N
    omega
  have e := congrFun (scaleM_at m c ⟨pt9Of i, hp⟩) (loc9Of i)
  dsimp only at e
  rw [outsAt0_sweep] at e
  unfold G9
  rw [dif_pos hp]
  refine e.trans ?_
  unfold blkScale
  refine congrArg (fScaleM (N := 14336) (n := 112) rfl (argG m c) (argMC m c) (argMS m c)) (funext fun a => Fin.ext ?_)
  match a with
  | ⟨0, _⟩ =>
    show 8 * ((8 * ((i 0).val / 8 - 0) + 1 * ((i 1).val / 640 - 0)) / 8) + (i 0).val % 8 = (i 0).val
    omega
  | ⟨1, _⟩ =>
    show 640 * ((8 * ((i 0).val / 8 - 0) + 1 * ((i 1).val / 640 - 0)) % 8) + (i 1).val % 640 = (i 1).val
    omega

/-- The second moment's codes after grid point `t`. -/
theorem codeV_at (t : Fin cfg0.N) :
    (outsAt0 m c t.val t.isLt).2.2.2.1 = blkRows (fCodeV (N := 14336) (n := 112) rfl (argG m c) (argVC m c) (argVS m c)) (ptI t) (ptJ t) := by
  rw [← fCodeV_blk]
  by_cases h0 : t.val % 112 = 0
  · rw [outsAt0_A m c t h0]
    refine (blockA_codeV ..).trans ?_
    rw [blk_in2, blk_in5, blk_in6]
  · rw [outsAt0_B m c t h0]
    refine (blockB_codeV ..).trans ?_
    rw [blk_in2, blk_in5, blk_in6]

/-- The second moment's codes, the whole array. -/
theorem whole_codeV : G10 m c = fCodeV (N := 14336) (n := 112) rfl (argG m c) (argVC m c) (argVS m c) := by
  funext i
  have h0 : (i 0).val < 14336 := (i 0).isLt
  have h1 : (i 1).val < 5120 := (i 1).isLt
  have hN : cfg0.N = 112 := N_0
  have hp : pt10Of i < cfg0.N := by
    show 8 * ((i 0).val / 1024 - 0) + 1 * ((i 1).val / 640 - 0) < cfg0.N
    omega
  have e := congrFun (codeV_at m c ⟨pt10Of i, hp⟩) (loc10Of i)
  dsimp only at e
  rw [outsAt0_sweep] at e
  unfold G10
  rw [dif_pos hp]
  refine e.trans ?_
  unfold blkRows
  refine congrArg (fCodeV (N := 14336) (n := 112) rfl (argG m c) (argVC m c) (argVS m c)) (funext fun a => Fin.ext ?_)
  match a with
  | ⟨0, _⟩ =>
    show 1024 * ((8 * ((i 0).val / 1024 - 0) + 1 * ((i 1).val / 640 - 0)) / 8) + (i 0).val % 1024 = (i 0).val
    omega
  | ⟨1, _⟩ =>
    show 640 * ((8 * ((i 0).val / 1024 - 0) + 1 * ((i 1).val / 640 - 0)) % 8) + (i 1).val % 640 = (i 1).val
    omega

/-- The second moment's scales after grid point `t`. -/
theorem scaleV_at (t : Fin cfg0.N) :
    (outsAt0 m c t.val t.isLt).2.2.2.2.1 = blkScale (fScaleV (N := 14336) (n := 112) rfl (argG m c) (argVC m c) (argVS m c)) (ptI t) (ptJ t) := by
  rw [← fScaleV_blk]
  by_cases h0 : t.val % 112 = 0
  · rw [outsAt0_A m c t h0]
    refine (blockA_scaleV ..).trans ?_
    rw [blk_in2, blk_in5, blk_in6]
  · rw [outsAt0_B m c t h0]
    refine (blockB_scaleV ..).trans ?_
    rw [blk_in2, blk_in5, blk_in6]

/-- The second moment's scales, the whole array. -/
theorem whole_scaleV : G11 m c = fScaleV (N := 14336) (n := 112) rfl (argG m c) (argVC m c) (argVS m c) := by
  funext i
  have h0 : (i 0).val < 112 := (i 0).isLt
  have h1 : (i 1).val < 5120 := (i 1).isLt
  have hN : cfg0.N = 112 := N_0
  have hp : pt11Of i < cfg0.N := by
    show 8 * ((i 0).val / 8 - 0) + 1 * ((i 1).val / 640 - 0) < cfg0.N
    omega
  have e := congrFun (scaleV_at m c ⟨pt11Of i, hp⟩) (loc11Of i)
  dsimp only at e
  rw [outsAt0_sweep] at e
  unfold G11
  rw [dif_pos hp]
  refine e.trans ?_
  unfold blkScale
  refine congrArg (fScaleV (N := 14336) (n := 112) rfl (argG m c) (argVC m c) (argVS m c)) (funext fun a => Fin.ext ?_)
  match a with
  | ⟨0, _⟩ =>
    show 8 * ((8 * ((i 0).val / 8 - 0) + 1 * ((i 1).val / 640 - 0)) / 8) + (i 0).val % 8 = (i 0).val
    omega
  | ⟨1, _⟩ =>
    show 640 * ((8 * ((i 0).val / 8 - 0) + 1 * ((i 1).val / 640 - 0)) % 8) + (i 1).val % 640 = (i 1).val
    omega

end Cert.Adam

end
-- ==== Proof.RefGroup.lean ====
/-
  THE REFERENCE'S FORMULAS AT AN INDEX.

  The reference views an array of 14336 rows as 112 groups of 128. Read at an index, its new moments are `gM` and `gV`, its
  largest values `ratioM` and `ratioV` of a group, its exponents `rExp`, and its five results the formulas of the group that
  holds the index.
-/
module

public import proofs.«01_k».proof.Proof.Gen.ReferenceIdeal.Skeleton
public import proofs.«01_k».proof.Proof.Arrays
public import proofs.«01_k».proof.Proof.Delta
public import Idealize.ShloMosaic.Lib.Pointwise
public import Idealize.ShloMosaic.PureOps.Ideal.Laws

@[expose] public section

noncomputable section

open Idealize.ShloMosaic Cert.ReferenceIdeal Cert.ReferenceIdeal.Gen

namespace Cert.Adam.Ref

/-- The name of the constant log 2 stands for that number. -/
theorem log_two_eq : (Named.named κ "log_2" 0x3F317218#32 : Ideal .f32) = ((Real.log 2 : ℝ) : EReal) :=
  IdealRules.named_const.ideal_named_scalar _ _ _ _ rfl

/-- The name of the constant -1/1000 stands for that number. -/
theorem lr_eq : (Named.named κ "lr" 0xBA83126F#32 : Ideal .f32) = ((-1 / 1000 : ℝ) : EReal) :=
  IdealRules.named_const.ideal_named_scalar _ _ _ _ rfl

/-- The name of the constant 1/100 stands for that number. -/
theorem wd_eq : (Named.named κ "wd" 0x3C23D70A#32 : Ideal .f32) = ((1 / 100 : ℝ) : EReal) :=
  IdealRules.named_const.ideal_named_scalar _ _ _ _ rfl

/-- An index is row `128 q + r` of its group `q`. -/
theorem ix_row (y : Ix 14336 5120) (h) :
    (ix2 (⟨128 * (grp (n := 112) rfl y).val + (row y).val, h⟩ : Fin 14336) (y 1) : Ix 14336 5120) = y := by
  refine funext fun a => Fin.ext ?_
  match a with
  | ⟨0, _⟩ => show 128 * ((y 0).val / 128) + (y 0).val % 128 = (y 0).val; omega
  | ⟨1, _⟩ => rfl

/-- The new first moment. -/
theorem ref_m (G : Vec Ideal S14336x5120 .bf16) (MC : Vec Ideal S14336x5120 .fp8e4m3) (MS : Vec Ideal S112x5120 .f32)
    (r : Fin 14336) (l : Fin 5120) :
    k0_pay2 (F := Ideal) G MC MS (ix2 r l) = Ideal.ofBits .f32 0x3F666666#32 * (MC (ix2 r l) * MS (ix2 ⟨r.val / 128, by omega⟩ l))
      + Ideal.ofBits .f32 0x3DCCCCCD#32 * G (ix2 r l) := by
  pointwise [k0_pay2, k0_pay1]

/-- The new second moment. -/
theorem ref_v (G : Vec Ideal S14336x5120 .bf16) (VC : Vec Ideal S14336x5120 .fp8e5m2) (VS : Vec Ideal S112x5120 .f32)
    (r : Fin 14336) (l : Fin 5120) :
    k0_pay3 (F := Ideal) G VC VS (ix2 r l) = Ideal.ofBits .f32 0x3F7FBE77#32 * (VC (ix2 r l) * VS (ix2 ⟨r.val / 128, by omega⟩ l))
      + Ideal.ofBits .f32 0x3A83126F#32 * (G (ix2 r l) * G (ix2 r l)) := by
  pointwise [k0_pay3, k0_pay1]

/-- The new first moment, by groups. -/
theorem ref_m_group (G : Vec Ideal S14336x5120 .bf16) (MC : Vec Ideal S14336x5120 .fp8e4m3) (MS : Vec Ideal S112x5120 .f32)
    (q : Fin 112) (l : Fin 5120) :
    gcol (N := 14336) (n := 112) rfl (k0_pay2 (F := Ideal) G MC MS) q l = gM (N := 14336) (n := 112) rfl G MC MS q l := by
  funext r
  have e : (⟨(128 * q.val + r.val) / 128, by omega⟩ : Fin 112) = q := Fin.ext (by dsimp only; omega)
  show k0_pay2 (F := Ideal) G MC MS (ix2 ⟨128 * q.val + r.val, _⟩ l) = _
  rw [ref_m, e]
  rfl

/-- The new second moment, by groups. -/
theorem ref_v_group (G : Vec Ideal S14336x5120 .bf16) (VC : Vec Ideal S14336x5120 .fp8e5m2) (VS : Vec Ideal S112x5120 .f32)
    (q : Fin 112) (l : Fin 5120) :
    gcol (N := 14336) (n := 112) rfl (k0_pay3 (F := Ideal) G VC VS) q l = gV (N := 14336) (n := 112) rfl G VC VS q l := by
  funext r
  have e : (⟨(128 * q.val + r.val) / 128, by omega⟩ : Fin 112) = q := Fin.ext (by dsimp only; omega)
  show k0_pay3 (F := Ideal) G VC VS (ix2 ⟨128 * q.val + r.val, _⟩ l) = _
  rw [ref_v, e]
  rfl

/-- The new first moment at an index. -/
theorem ref_m_at (G : Vec Ideal S14336x5120 .bf16) (MC : Vec Ideal S14336x5120 .fp8e4m3) (MS : Vec Ideal S112x5120 .f32)
    (y : S14336x5120.Idx) :
    k0_pay2 (F := Ideal) G MC MS y = gM (N := 14336) (n := 112) rfl G MC MS (grp rfl y) (y 1) (row y) := by
  have e := congrFun (ref_m_group G MC MS (grp rfl y) (y 1)) (row y)
  unfold gcol at e
  rw [ix_row] at e
  exact e

/-- The new second moment at an index. -/
theorem ref_v_at (G : Vec Ideal S14336x5120 .bf16) (VC : Vec Ideal S14336x5120 .fp8e5m2) (VS : Vec Ideal S112x5120 .f32)
    (y : S14336x5120.Idx) :
    k0_pay3 (F := Ideal) G VC VS y = gV (N := 14336) (n := 112) rfl G VC VS (grp rfl y) (y 1) (row y) := by
  have e := congrFun (ref_v_group G VC VS (grp rfl y) (y 1)) (row y)
  unfold gcol at e
  rw [ix_row] at e
  exact e

/-- The largest absolute value of a group. -/
theorem ref_top (X : FVec Ideal S14336x5120 .f32) (h) (hφ) (hacc) (hc) (q : Fin 112) (l : Fin 5120) :
    multiReduction .maximumf [1] S112x5120 (absf (shapeCast S112x128x5120 X hc)) 0xFF800000#32 h hφ hacc (ix2 q l)
      = top (gcol (N := 14336) (n := 112) rfl X q l) := by
  rw [Ideal.multiReduction_maximumf_single]
  unfold top
  refine congrArg (fun f : Fin 128 → EReal => Finset.univ.fold max (Ideal.ofBits .f32 0xFF800000#32) f) (funext fun r => ?_)
  have e : h.lift (ix2 q l) r = ix3 q r l := funext fun a => Fin.ext (by
    match a with
    | ⟨0, _⟩ => rfl
    | ⟨1, _⟩ => rfl
    | ⟨2, _⟩ => rfl)
  show absf (shapeCast S112x128x5120 X hc) (h.lift (ix2 q l) r) = _
  rw [e]
  have s : shapeCast S112x128x5120 X hc (ix3 q r l) = gcol (N := 14336) (n := 112) rfl X q l r := by
    pointwise []
    unfold gcol
    refine congrArg X (funext fun a => Fin.ext ?_)
    match a with
    | ⟨0, _⟩ => show q.val * 128 + r.val = 128 * q.val + r.val; omega
    | ⟨1, _⟩ => rfl
  rw [← s]
  rfl

/-- The exponents, from what decides them. -/
def expo (R : FVec Ideal S112x5120 .f32) : FVec Ideal S112x5120 .f32 :=
  select (ori (cmpf .olt R (broadcast S112x5120 (Scalar.ofBits .f32 0x00800000#32)))
      (cmpf .oge R (broadcast S112x5120 (Scalar.ofBits .f32 0x7E800000#32))))
    (broadcast S112x5120 (Scalar.ofBits .f32 0x00000000#32))
    (addf (floor (divf (log R) (broadcast S112x5120 (Named.named κ "log_2" 0x3F317218#32))))
      (broadcast S112x5120 (Scalar.ofBits .f32 0x3F800000#32)))

theorem expo_apply (R : FVec Ideal S112x5120 .f32) (q : Fin 112) (l : Fin 5120) : expo R (ix2 q l) = rExp (R (ix2 q l)) := by
  unfold rExp
  pointwise [expo]
  rw [log_two_eq]

/-- A vector times a constant, at an index. -/
theorem scaled (R : FVec Ideal S112x5120 .f32) (w : BitVec 32) (z : S112x5120.Idx) :
    mulf R (broadcast S112x5120 (Scalar.ofBits .f32 w)) z = R z * Ideal.ofBits .f32 w := rfl

/-- What decides the first moment's exponents. -/
theorem ref_ratio_m (G : Vec Ideal S14336x5120 .bf16) (MC : Vec Ideal S14336x5120 .fp8e4m3) (MS : Vec Ideal S112x5120 .f32)
    (q : Fin 112) (l : Fin 5120) :
    k0_pay4 (F := Ideal) G MC MS (ix2 q l) = ratioM (gM (N := 14336) (n := 112) rfl G MC MS q l) := by
  unfold k0_pay4 ratioM
  rw [← ref_m_group]
  generalize k0_pay2 (F := Ideal) G MC MS = X
  exact (scaled _ _ _).trans (congrArg (fun x : EReal => x * Ideal.ofBits .f32 0x3B124925#32) (ref_top X _ _ _ _ q l))

/-- What decides the second moment's exponents. -/
def ratioVs (v : FVec Ideal S14336x5120 .f32) : FVec Ideal S112x5120 .f32 :=
  mulf (multiReduction .maximumf [1] S112x5120 (absf (shapeCast S112x128x5120 v shapeCasts_S14336x5120_S112x128x5120))
    0xFF800000#32 reduces_S112x128x5120_S112x5120 (.inl rfl) rfl) (broadcast S112x5120 (Scalar.ofBits .f32 0x37924925#32))

theorem ref_ratio_v (G : Vec Ideal S14336x5120 .bf16) (VC : Vec Ideal S14336x5120 .fp8e5m2) (VS : Vec Ideal S112x5120 .f32)
    (q : Fin 112) (l : Fin 5120) :
    ratioVs (k0_pay3 (F := Ideal) G VC VS) (ix2 q l) = ratioV (gV (N := 14336) (n := 112) rfl G VC VS q l) := by
  unfold ratioVs ratioV
  rw [← ref_v_group]
  generalize k0_pay3 (F := Ideal) G VC VS = X
  exact (scaled _ _ _).trans (congrArg (fun x : EReal => x * Ideal.ofBits .f32 0x37924925#32) (ref_top X _ _ _ _ q l))

/-- The first moment's exponents. -/
theorem ref_exp_m (G : Vec Ideal S14336x5120 .bf16) (MC : Vec Ideal S14336x5120 .fp8e4m3) (MS : Vec Ideal S112x5120 .f32)
    (q : Fin 112) (l : Fin 5120) :
    k0_pay8 (k0_pay5 (F := Ideal) G MC MS) (k0_pay6 (F := Ideal) G MC MS) k0_pay7 (ix2 q l)
      = rExp (ratioM (gM (N := 14336) (n := 112) rfl G MC MS q l)) := by
  rw [← ref_ratio_m]
  unfold k0_pay8 k0_pay5 k0_pay6 k0_pay7
  generalize k0_pay4 (F := Ideal) G MC MS = R
  exact expo_apply R q l

theorem exp_v_expo (v : FVec Ideal S14336x5120 .f32) : k0_pay11 v = expo (ratioVs v) := by
  unfold k0_pay11 expo ratioVs
  rfl

/-- The second moment's exponents. -/
theorem ref_exp_v (G : Vec Ideal S14336x5120 .bf16) (VC : Vec Ideal S14336x5120 .fp8e5m2) (VS : Vec Ideal S112x5120 .f32)
    (q : Fin 112) (l : Fin 5120) :
    k0_pay11 (k0_pay3 (F := Ideal) G VC VS) (ix2 q l) = rExp (ratioV (gV (N := 14336) (n := 112) rfl G VC VS q l)) := by
  rw [← ref_ratio_v, ← expo_apply, exp_v_expo]

/-! ## The five results -/

/-- An index of a whole array by its two coordinates. -/
theorem ix_pair {a b : ℕ} (y : Ix a b) : (ix2 (y 0) (y 1) : Ix a b) = y := funext fun x => by
  match x with
  | ⟨0, _⟩ => rfl
  | ⟨1, _⟩ => rfl

/-- A first moment's code, from its group's exponent. -/
theorem code_m_at (X : FVec Ideal S14336x5120 .f32) (a : IVec S112x5120 1) (b c : FVec Ideal S112x5120 .f32) (r : Fin 14336) (l : Fin 5120) :
    k0_pay10 X a b c (ix2 r l) = codeM (X (ix2 r l)) (Ideal.exp2 (0 - k0_pay8 a b c (ix2 ⟨r.val / 128, by omega⟩ l))) := by
  unfold codeM
  pointwise [k0_pay10]
  rfl

/-- A second moment's code, from its group's exponent. -/
theorem code_v_at (X : FVec Ideal S14336x5120 .f32) (e : FVec Ideal S112x5120 .f32) (r : Fin 14336) (l : Fin 5120) :
    k0_pay13 X e (Scalar.ofBits .f32 0x00000000#32) (ix2 r l) = codeV (X (ix2 r l)) (Ideal.exp2 (0 - e (ix2 ⟨r.val / 128, by omega⟩ l))) := by
  unfold codeV
  pointwise [k0_pay13]
  rfl

/-- An update, from the two moments. -/
theorem delta_at (X Y : FVec Ideal S14336x5120 .f32) (t : BitVec 32) (P : Vec Ideal S14336x5120 .f32) (r : Fin 14336) (l : Fin 5120) :
    k0_pay14 X Y t P (ix2 r l) = rDelta t (X (ix2 r l)) (Y (ix2 r l)) (P (ix2 r l)) := by
  unfold rDelta
  rw [← lr_eq, ← wd_eq]
  pointwise [k0_pay14]
  simp only [corrOne, corrTwo, one_eq, EReal.coe_one]
  rfl

variable (P : Vec Ideal S14336x5120 .f32) (G : Vec Ideal S14336x5120 .bf16) (MC : Vec Ideal S14336x5120 .fp8e4m3)
  (MS : Vec Ideal S112x5120 .f32) (VC : Vec Ideal S14336x5120 .fp8e5m2) (VS : Vec Ideal S112x5120 .f32)

/-- The reference's update of finite parameters, at a step of at least 1, is the kernel's formula. -/
theorem ref_delta (t : BitVec 32) (ht : 1 ≤ t.toInt) (hP : ∀ y, ∃ p : ℝ, P y = (p : EReal)) :
    k0_pay14 (k0_pay2 (F := Ideal) G MC MS) (k0_pay3 (F := Ideal) G VC VS) t P
      = fDelta (N := 14336) (n := 112) rfl (kOne t) (kTwo t) P G MC VC MS VS := by
  funext y
  have e := delta_at (k0_pay2 (F := Ideal) G MC MS) (k0_pay3 (F := Ideal) G VC VS) t P (y 0) (y 1)
  rw [show (ix2 (y 0) (y 1) : Ix 14336 5120) = y from ix_pair y, ref_m_at, ref_v_at] at e
  refine e.trans ?_
  unfold fDelta
  obtain ⟨p, hp⟩ := hP y
  have hp' : P y = (p : EReal) := hp
  rw [hp', delta_eq t ht]

/-- A first moment's code at an index, once its group's exponent is known. -/
theorem code_m_of (X : FVec Ideal S14336x5120 .f32) (a : IVec S112x5120 1) (b c : FVec Ideal S112x5120 .f32) (y : Ix 14336 5120) (E : EReal)
    (e : k0_pay8 a b c (ix2 (grp (n := 112) rfl y) (y 1)) = E) :
    k0_pay10 X a b c y = codeM (X y) (Ideal.exp2 (0 - E)) := by
  subst e
  have k := code_m_at X a b c (y 0) (y 1)
  rw [show (ix2 (y 0) (y 1) : Ix 14336 5120) = y from ix_pair y] at k
  exact k

/-- A second moment's code at an index, once its group's exponent is known. -/
theorem code_v_of (X : FVec Ideal S14336x5120 .f32) (A : FVec Ideal S112x5120 .f32) (y : Ix 14336 5120) (E : EReal)
    (e : A (ix2 (grp (n := 112) rfl y) (y 1)) = E) :
    k0_pay13 X A (Scalar.ofBits .f32 0x00000000#32) y = codeV (X y) (Ideal.exp2 (0 - E)) := by
  subst e
  have k := code_v_at X A (y 0) (y 1)
  rw [show (ix2 (y 0) (y 1) : Ix 14336 5120) = y from ix_pair y] at k
  exact k

/-- The powers of two, at an index whose exponent is known. -/
theorem exp2_of (A : FVec Ideal S112x5120 .f32) (z : Ix 112 5120) (E : EReal) (e : A (ix2 (z 0) (z 1)) = E) :
    exp2 A z = Ideal.exp2 E := by
  subst e
  rw [show (ix2 (z 0) (z 1) : Ix 112 5120) = z from ix_pair z]
  rfl

/-- The reference's codes of the first moment are the kernel's formula. -/
theorem ref_codeM : k0_pay10 (k0_pay2 (F := Ideal) G MC MS) (k0_pay5 (F := Ideal) G MC MS) (k0_pay6 (F := Ideal) G MC MS) k0_pay7
    = fCodeM (N := 14336) (n := 112) rfl G MC MS := by
  funext y
  refine (code_m_of _ _ _ _ y _ (ref_exp_m G MC MS (grp rfl y) (y 1))).trans ?_
  rw [ref_m_at]
  unfold fCodeM
  rw [(scale_inv_eq _ (ratioM_nonneg _)).2]
  rfl

/-- The reference's scales of the first moment are the kernel's formula. -/
theorem ref_scaleM : k0_pay9 (k0_pay5 (F := Ideal) G MC MS) (k0_pay6 (F := Ideal) G MC MS) k0_pay7
    = fScaleM (N := 14336) (n := 112) rfl G MC MS := by
  funext z
  unfold k0_pay9
  refine (exp2_of _ z _ (ref_exp_m G MC MS (z 0) (z 1))).trans ?_
  unfold fScaleM
  rw [(scale_inv_eq _ (ratioM_nonneg _)).1]
  rfl

/-- The reference's codes of the second moment are the kernel's formula. -/
theorem ref_codeV : k0_pay13 (k0_pay3 (F := Ideal) G VC VS) (k0_pay11 (k0_pay3 (F := Ideal) G VC VS)) (Scalar.ofBits .f32 0x00000000#32)
    = fCodeV (N := 14336) (n := 112) rfl G VC VS := by
  funext y
  refine (code_v_of _ _ y _ (ref_exp_v G VC VS (grp rfl y) (y 1))).trans ?_
  rw [ref_v_at]
  unfold fCodeV
  rw [(scale_inv_eq _ (ratioV_nonneg _)).2]
  rfl

/-- The reference's scales of the second moment are the kernel's formula. -/
theorem ref_scaleV : k0_pay12 (k0_pay3 (F := Ideal) G VC VS) = fScaleV (N := 14336) (n := 112) rfl G VC VS := by
  funext z
  unfold k0_pay12
  refine (exp2_of _ z _ (ref_exp_v G VC VS (z 0) (z 1))).trans ?_
  unfold fScaleV
  rw [(scale_inv_eq _ (ratioV_nonneg _)).1]
  rfl

end Cert.Adam.Ref

end
-- ==== Proof.RefWhole.lean ====
/-
  THE REFERENCE'S RESULTS AS WHOLE ARRAYS.

  The reference runs once, on the whole arrays: each of its five results is one store of a whole array, a formula of the
  arguments read whole.
-/
module

public import proofs.«01_k».proof.Proof.Gen.ReferenceIdeal.Value
public import proofs.«01_k».proof.Proof.RefGroup

@[expose] public section

noncomputable section

open Idealize.ShloMosaic Idealize.ShloMosaic.TcCoe Idealize.SL.Sem Cert.ReferenceIdeal Cert.ReferenceIdeal.Gen Cert.ReferenceIdeal.Value

namespace Cert.Adam.Ref

theorem zeros : (![0, 0] : Fin 2 → Nat) = fun _ => 0 := funext fun a => by
  match a with
  | ⟨0, _⟩ => rfl
  | ⟨1, _⟩ => rfl

/-! ## What the one run stores -/

variable (c : Dev nD)
  (arg0 : Memref sig .tc .smem S1 .i32) (harg0 : arg0.IsWhole)
  (arg1 : Memref sig .tc .vmem S14336x5120 .f32) (harg1 : arg1.IsWhole)
  (arg2 : Memref sig .tc .vmem S14336x5120 .bf16) (harg2 : arg2.IsWhole)
  (arg3 : Memref sig .tc .vmem S14336x5120 .fp8e4m3) (harg3 : arg3.IsWhole)
  (arg4 : Memref sig .tc .vmem S112x5120 .f32) (harg4 : arg4.IsWhole)
  (arg5 : Memref sig .tc .vmem S14336x5120 .fp8e5m2) (harg5 : arg5.IsWhole)
  (arg6 : Memref sig .tc .vmem S112x5120 .f32) (harg6 : arg6.IsWhole)
  (arg7 : Memref sig .tc .vmem S14336x5120 .f32) (harg7 : arg7.IsWhole)
  (arg8 : Memref sig .tc .vmem S14336x5120 .fp8e4m3) (harg8 : arg8.IsWhole)
  (arg9 : Memref sig .tc .vmem S112x5120 .f32) (harg9 : arg9.IsWhole)
  (arg10 : Memref sig .tc .vmem S14336x5120 .fp8e5m2) (harg10 : arg10.IsWhole)
  (arg11 : Memref sig .tc .vmem S112x5120 .f32) (harg11 : arg11.IsWhole)
  (x0 : Vec Ideal S1 .i32) (x1 : Vec Ideal S14336x5120 .f32) (x2 : Vec Ideal S14336x5120 .bf16) (x3 : Vec Ideal S14336x5120 .fp8e4m3) (x4 : Vec Ideal S112x5120 .f32) (x5 : Vec Ideal S14336x5120 .fp8e5m2) (x6 : Vec Ideal S112x5120 .f32)

/-- The updates. -/
theorem out7 : out0_A_7 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = k0_pay14 (k0_pay2 (F := Ideal) x2 x3 x4) (k0_pay3 (F := Ideal) x2 x5 x6) (x0 (ix1 0)) x1 := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread, View.ld_unit_zero (S := S14336x5120) zeros, View.ld_unit_zero (S := S112x5120) zeros]
  refine congrArg (fun t => k0_pay14 (k0_pay2 (F := Ideal) x2 x3 x4) (k0_pay3 (F := Ideal) x2 x5 x6) t x1) ?_
  rw [harg0.read_unread]
  exact congrArg x0 (funext fun a => by
    match a with
    | ⟨0, _⟩ => exact Subsingleton.elim (α := Fin 1) _ _)

/-- The first moment's codes. -/
theorem out8 : out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = k0_pay10 (k0_pay2 (F := Ideal) x2 x3 x4) (k0_pay5 (F := Ideal) x2 x3 x4) (k0_pay6 (F := Ideal) x2 x3 x4) k0_pay7 := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread, View.ld_unit_zero (S := S14336x5120) zeros, View.ld_unit_zero (S := S112x5120) zeros]

/-- The first moment's scales. -/
theorem out9 : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = k0_pay9 (k0_pay5 (F := Ideal) x2 x3 x4) (k0_pay6 (F := Ideal) x2 x3 x4) k0_pay7 := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread, View.ld_unit_zero (S := S14336x5120) zeros, View.ld_unit_zero (S := S112x5120) zeros]

/-- The second moment's codes. -/
theorem out10 : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = k0_pay13 (k0_pay3 (F := Ideal) x2 x5 x6) (k0_pay11 (k0_pay3 (F := Ideal) x2 x5 x6)) (Scalar.ofBits .f32 0x00000000#32) := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread, View.ld_unit_zero (S := S14336x5120) zeros, View.ld_unit_zero (S := S112x5120) zeros]

/-- The second moment's scales. -/
theorem out11 : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = k0_pay12 (k0_pay3 (F := Ideal) x2 x5 x6) := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero zeros]
  simp only [View.readAt_eq_ld, harg1.read_unread, harg2.read_unread, harg3.read_unread, harg4.read_unread, harg5.read_unread, harg6.read_unread, View.ld_unit_zero (S := S14336x5120) zeros, View.ld_unit_zero (S := S112x5120) zeros]

/-! ## The arguments -/

variable (m : (ℓ : Loc nD τ sig) → Buf (Elt Ideal) ℓ) (d : Dev nD)

/-- The parameters. -/
abbrev argP : Ix 14336 5120 → EReal := m ((d : Thread nD τ).loc main_arg0)

/-- The gradients. -/
abbrev argG : Ix 14336 5120 → EReal := m ((d : Thread nD τ).loc main_arg1)

/-- The first moment's codes. -/
abbrev argMC : Ix 14336 5120 → EReal := m ((d : Thread nD τ).loc main_arg2)

/-- The first moment's scales. -/
abbrev argMS : Ix 112 5120 → EReal := m ((d : Thread nD τ).loc main_arg3)

/-- The second moment's codes. -/
abbrev argVC : Ix 14336 5120 → EReal := m ((d : Thread nD τ).loc main_arg4)

/-- The second moment's scales. -/
abbrev argVS : Ix 112 5120 → EReal := m ((d : Thread nD τ).loc main_arg5)

/-- The step. -/
abbrev argT : BitVec 32 := (m ((d : Thread nD τ).loc main_arg6) : S_.Idx → BitVec 32) (fun a => a.elim0)

/-- The step as the one-element array the kernel is given. -/
theorem V_step : (V m d main_v0 : S1.Idx → BitVec 32) (ix1 0) = argT m d := by
  have e := congrFun (StableHlo.reshape_result (Val := Elt Ideal) main_arg6 main_v0 rfl shapeCasts_S_S1 (by decide) (by decide) (fun b => m (d, b))) (ix1 (0 : Fin 1))
  refine e.trans (congrArg (m ((d : Thread nD τ).loc main_arg6) : S_.Idx → BitVec 32) (funext fun a => a.elim0))

theorem blk_in0 (t : Fin cfg0.N) : (iblk m d 0 t : S1.Idx → BitVec 32) (ix1 0) = argT m d := by
  unfold iblk
  rw [View.read_apply]
  refine Eq.trans ?_ (V_step m d)
  show V m d main_v0 _ = V m d main_v0 _
  exact congrArg (V m d main_v0 : S1.Idx → BitVec 32) (funext fun a => by
    match a with
    | ⟨0, _⟩ => exact Subsingleton.elim (α := Fin 1) _ _)

theorem idx_in1 : ∀ t : Fin cfg0.N, win0_1.index t (0 : Fin 2) = 0 ∧ win0_1.index t (1 : Fin 2) = 0 :=
  (by decide +kernel : ∀ t : Fin grid0.N, _)

theorem blk_in1 (t : Fin cfg0.N) : (iblk m d 1 t : Ix 14336 5120 → EReal) = argP m d := by
  obtain ⟨e0, e1⟩ := idx_in1 t
  funext y
  unfold iblk
  rw [View.read_apply]
  show V m d main_arg0 _ = _
  rw [V_main_arg0]
  refine congrArg (argP m d) (funext fun a => Fin.ext ?_)
  match a with
  | ⟨0, _⟩ => show win0_1.index t (0 : Fin 2) * 14336 + 1 * (y 0).val = (y 0).val; omega
  | ⟨1, _⟩ => show win0_1.index t (1 : Fin 2) * 5120 + 1 * (y 1).val = (y 1).val; omega

theorem idx_in2 : ∀ t : Fin cfg0.N, win0_2.index t (0 : Fin 2) = 0 ∧ win0_2.index t (1 : Fin 2) = 0 :=
  (by decide +kernel : ∀ t : Fin grid0.N, _)

theorem blk_in2 (t : Fin cfg0.N) : (iblk m d 2 t : Ix 14336 5120 → EReal) = argG m d := by
  obtain ⟨e0, e1⟩ := idx_in2 t
  funext y
  unfold iblk
  rw [View.read_apply]
  show V m d main_arg1 _ = _
  rw [V_main_arg1]
  refine congrArg (argG m d) (funext fun a => Fin.ext ?_)
  match a with
  | ⟨0, _⟩ => show win0_2.index t (0 : Fin 2) * 14336 + 1 * (y 0).val = (y 0).val; omega
  | ⟨1, _⟩ => show win0_2.index t (1 : Fin 2) * 5120 + 1 * (y 1).val = (y 1).val; omega

theorem idx_in3 : ∀ t : Fin cfg0.N, win0_3.index t (0 : Fin 2) = 0 ∧ win0_3.index t (1 : Fin 2) = 0 :=
  (by decide +kernel : ∀ t : Fin grid0.N, _)

theorem blk_in3 (t : Fin cfg0.N) : (iblk m d 3 t : Ix 14336 5120 → EReal) = argMC m d := by
  obtain ⟨e0, e1⟩ := idx_in3 t
  funext y
  unfold iblk
  rw [View.read_apply]
  show V m d main_arg2 _ = _
  rw [V_main_arg2]
  refine congrArg (argMC m d) (funext fun a => Fin.ext ?_)
  match a with
  | ⟨0, _⟩ => show win0_3.index t (0 : Fin 2) * 14336 + 1 * (y 0).val = (y 0).val; omega
  | ⟨1, _⟩ => show win0_3.index t (1 : Fin 2) * 5120 + 1 * (y 1).val = (y 1).val; omega

theorem idx_in4 : ∀ t : Fin cfg0.N, win0_4.index t (0 : Fin 2) = 0 ∧ win0_4.index t (1 : Fin 2) = 0 :=
  (by decide +kernel : ∀ t : Fin grid0.N, _)

theorem blk_in4 (t : Fin cfg0.N) : (iblk m d 4 t : Ix 112 5120 → EReal) = argMS m d := by
  obtain ⟨e0, e1⟩ := idx_in4 t
  funext y
  unfold iblk
  rw [View.read_apply]
  show V m d main_arg3 _ = _
  rw [V_main_arg3]
  refine congrArg (argMS m d) (funext fun a => Fin.ext ?_)
  match a with
  | ⟨0, _⟩ => show win0_4.index t (0 : Fin 2) * 112 + 1 * (y 0).val = (y 0).val; omega
  | ⟨1, _⟩ => show win0_4.index t (1 : Fin 2) * 5120 + 1 * (y 1).val = (y 1).val; omega

theorem idx_in5 : ∀ t : Fin cfg0.N, win0_5.index t (0 : Fin 2) = 0 ∧ win0_5.index t (1 : Fin 2) = 0 :=
  (by decide +kernel : ∀ t : Fin grid0.N, _)

theorem blk_in5 (t : Fin cfg0.N) : (iblk m d 5 t : Ix 14336 5120 → EReal) = argVC m d := by
  obtain ⟨e0, e1⟩ := idx_in5 t
  funext y
  unfold iblk
  rw [View.read_apply]
  show V m d main_arg4 _ = _
  rw [V_main_arg4]
  refine congrArg (argVC m d) (funext fun a => Fin.ext ?_)
  match a with
  | ⟨0, _⟩ => show win0_5.index t (0 : Fin 2) * 14336 + 1 * (y 0).val = (y 0).val; omega
  | ⟨1, _⟩ => show win0_5.index t (1 : Fin 2) * 5120 + 1 * (y 1).val = (y 1).val; omega

theorem idx_in6 : ∀ t : Fin cfg0.N, win0_6.index t (0 : Fin 2) = 0 ∧ win0_6.index t (1 : Fin 2) = 0 :=
  (by decide +kernel : ∀ t : Fin grid0.N, _)

theorem blk_in6 (t : Fin cfg0.N) : (iblk m d 6 t : Ix 112 5120 → EReal) = argVS m d := by
  obtain ⟨e0, e1⟩ := idx_in6 t
  funext y
  unfold iblk
  rw [View.read_apply]
  show V m d main_arg5 _ = _
  rw [V_main_arg5]
  refine congrArg (argVS m d) (funext fun a => Fin.ext ?_)
  match a with
  | ⟨0, _⟩ => show win0_6.index t (0 : Fin 2) * 112 + 1 * (y 0).val = (y 0).val; omega
  | ⟨1, _⟩ => show win0_6.index t (1 : Fin 2) * 5120 + 1 * (y 1).val = (y 1).val; omega

/-! ## The five results -/

theorem one_point : 0 < cfg0.N := (by decide +kernel : 0 < grid0.N)

theorem idx_out7 : ∀ t : Fin cfg0.N, win0_7.index t (0 : Fin 2) = 0 ∧ win0_7.index t (1 : Fin 2) = 0 :=
  (by decide +kernel : ∀ t : Fin grid0.N, _)

theorem flush_out7 : ∀ t : Fin cfg0.N, (cfg0.win 7).flush t = true :=
  (by decide +kernel : ∀ t : Fin grid0.N, win0_7.flush t = true)

/-- Result 1's one block is the whole array. -/
theorem emb_out7 (t : Fin cfg0.N) (y : Ix 14336 5120) : ((cfg0.win 7).blk t).view.emb y = y := by
  obtain ⟨e0, e1⟩ := idx_out7 t
  refine funext fun a => Fin.ext ?_
  match a with
  | ⟨0, _⟩ => show win0_7.index t (0 : Fin 2) * 14336 + 1 * (y 0).val = (y 0).val; omega
  | ⟨1, _⟩ => show win0_7.index t (1 : Fin 2) * 5120 + 1 * (y 1).val = (y 1).val; omega

/-- The update of the parameters. -/
theorem whole_delta (ht : 1 ≤ (argT m d).toInt) (hP : ∀ y, ∃ p : ℝ, argP m d y = (p : EReal)) : ((dats m 0 d).arrAt 7 cfg0.N : Ix 14336 5120 → EReal) = fDelta (N := 14336) (n := 112) rfl (kOne (argT m d)) (kTwo (argT m d)) (argP m d) (argG m d) (argMC m d) (argVC m d) (argMS m d) (argVS m d) := by
  have k := (Value.blocks7 m d ⟨0, one_point⟩ (flush_out7 _)).trans (flushed7_A m d ⟨0, one_point⟩)
  rw [out7, blk_in0, blk_in1, blk_in2, blk_in3, blk_in4, blk_in5, blk_in6, ref_delta _ _ _ _ _ _ _ ht hP] at k
  generalize (fDelta (N := 14336) (n := 112) rfl (kOne (argT m d)) (kTwo (argT m d)) (argP m d) (argG m d) (argMC m d) (argVC m d) (argMS m d) (argVS m d) : _ → EReal) = A at k ⊢
  funext y
  have ky := congrFun k y
  rw [View.read_apply, emb_out7] at ky
  have e : (cfg0.win 7).cut (grid0.coords ⟨0, one_point⟩) A y = A y := by
    unfold Pipeline.Window.cut
    refine congrArg A (funext fun a => Fin.ext ?_)
    rfl
  exact (cast_eq _ _).symm.trans (ky.trans e)

theorem idx_out8 : ∀ t : Fin cfg0.N, win0_8.index t (0 : Fin 2) = 0 ∧ win0_8.index t (1 : Fin 2) = 0 :=
  (by decide +kernel : ∀ t : Fin grid0.N, _)

theorem flush_out8 : ∀ t : Fin cfg0.N, (cfg0.win 8).flush t = true :=
  (by decide +kernel : ∀ t : Fin grid0.N, win0_8.flush t = true)

/-- Result 2's one block is the whole array. -/
theorem emb_out8 (t : Fin cfg0.N) (y : Ix 14336 5120) : ((cfg0.win 8).blk t).view.emb y = y := by
  obtain ⟨e0, e1⟩ := idx_out8 t
  refine funext fun a => Fin.ext ?_
  match a with
  | ⟨0, _⟩ => show win0_8.index t (0 : Fin 2) * 14336 + 1 * (y 0).val = (y 0).val; omega
  | ⟨1, _⟩ => show win0_8.index t (1 : Fin 2) * 5120 + 1 * (y 1).val = (y 1).val; omega

/-- The codes of the first moment. -/
theorem whole_codeM : ((dats m 0 d).arrAt 8 cfg0.N : Ix 14336 5120 → EReal) = fCodeM (N := 14336) (n := 112) rfl (argG m d) (argMC m d) (argMS m d) := by
  have k := (Value.blocks8 m d ⟨0, one_point⟩ (flush_out8 _)).trans (flushed8_A m d ⟨0, one_point⟩)
  rw [out8, blk_in2, blk_in3, blk_in4, ref_codeM _ _ _] at k
  generalize (fCodeM (N := 14336) (n := 112) rfl (argG m d) (argMC m d) (argMS m d) : _ → EReal) = A at k ⊢
  funext y
  have ky := congrFun k y
  rw [View.read_apply, emb_out8] at ky
  have e : (cfg0.win 8).cut (grid0.coords ⟨0, one_point⟩) A y = A y := by
    unfold Pipeline.Window.cut
    refine congrArg A (funext fun a => Fin.ext ?_)
    rfl
  exact (cast_eq _ _).symm.trans (ky.trans e)

theorem idx_out9 : ∀ t : Fin cfg0.N, win0_9.index t (0 : Fin 2) = 0 ∧ win0_9.index t (1 : Fin 2) = 0 :=
  (by decide +kernel : ∀ t : Fin grid0.N, _)

theorem flush_out9 : ∀ t : Fin cfg0.N, (cfg0.win 9).flush t = true :=
  (by decide +kernel : ∀ t : Fin grid0.N, win0_9.flush t = true)

/-- Result 3's one block is the whole array. -/
theorem emb_out9 (t : Fin cfg0.N) (y : Ix 112 5120) : ((cfg0.win 9).blk t).view.emb y = y := by
  obtain ⟨e0, e1⟩ := idx_out9 t
  refine funext fun a => Fin.ext ?_
  match a with
  | ⟨0, _⟩ => show win0_9.index t (0 : Fin 2) * 112 + 1 * (y 0).val = (y 0).val; omega
  | ⟨1, _⟩ => show win0_9.index t (1 : Fin 2) * 5120 + 1 * (y 1).val = (y 1).val; omega

/-- The scales of the first moment. -/
theorem whole_scaleM : ((dats m 0 d).arrAt 9 cfg0.N : Ix 112 5120 → EReal) = fScaleM (N := 14336) (n := 112) rfl (argG m d) (argMC m d) (argMS m d) := by
  have k := (Value.blocks9 m d ⟨0, one_point⟩ (flush_out9 _)).trans (flushed9_A m d ⟨0, one_point⟩)
  rw [out9, blk_in2, blk_in3, blk_in4, ref_scaleM _ _ _] at k
  generalize (fScaleM (N := 14336) (n := 112) rfl (argG m d) (argMC m d) (argMS m d) : _ → EReal) = A at k ⊢
  funext y
  have ky := congrFun k y
  rw [View.read_apply, emb_out9] at ky
  have e : (cfg0.win 9).cut (grid0.coords ⟨0, one_point⟩) A y = A y := by
    unfold Pipeline.Window.cut
    refine congrArg A (funext fun a => Fin.ext ?_)
    rfl
  exact (cast_eq _ _).symm.trans (ky.trans e)

theorem idx_out10 : ∀ t : Fin cfg0.N, win0_10.index t (0 : Fin 2) = 0 ∧ win0_10.index t (1 : Fin 2) = 0 :=
  (by decide +kernel : ∀ t : Fin grid0.N, _)

theorem flush_out10 : ∀ t : Fin cfg0.N, (cfg0.win 10).flush t = true :=
  (by decide +kernel : ∀ t : Fin grid0.N, win0_10.flush t = true)

/-- Result 4's one block is the whole array. -/
theorem emb_out10 (t : Fin cfg0.N) (y : Ix 14336 5120) : ((cfg0.win 10).blk t).view.emb y = y := by
  obtain ⟨e0, e1⟩ := idx_out10 t
  refine funext fun a => Fin.ext ?_
  match a with
  | ⟨0, _⟩ => show win0_10.index t (0 : Fin 2) * 14336 + 1 * (y 0).val = (y 0).val; omega
  | ⟨1, _⟩ => show win0_10.index t (1 : Fin 2) * 5120 + 1 * (y 1).val = (y 1).val; omega

/-- The codes of the second moment. -/
theorem whole_codeV : ((dats m 0 d).arrAt 10 cfg0.N : Ix 14336 5120 → EReal) = fCodeV (N := 14336) (n := 112) rfl (argG m d) (argVC m d) (argVS m d) := by
  have k := (Value.blocks10 m d ⟨0, one_point⟩ (flush_out10 _)).trans (flushed10_A m d ⟨0, one_point⟩)
  rw [out10, blk_in2, blk_in5, blk_in6, ref_codeV _ _ _] at k
  generalize (fCodeV (N := 14336) (n := 112) rfl (argG m d) (argVC m d) (argVS m d) : _ → EReal) = A at k ⊢
  funext y
  have ky := congrFun k y
  rw [View.read_apply, emb_out10] at ky
  have e : (cfg0.win 10).cut (grid0.coords ⟨0, one_point⟩) A y = A y := by
    unfold Pipeline.Window.cut
    refine congrArg A (funext fun a => Fin.ext ?_)
    rfl
  exact (cast_eq _ _).symm.trans (ky.trans e)

theorem idx_out11 : ∀ t : Fin cfg0.N, win0_11.index t (0 : Fin 2) = 0 ∧ win0_11.index t (1 : Fin 2) = 0 :=
  (by decide +kernel : ∀ t : Fin grid0.N, _)

theorem flush_out11 : ∀ t : Fin cfg0.N, (cfg0.win 11).flush t = true :=
  (by decide +kernel : ∀ t : Fin grid0.N, win0_11.flush t = true)

/-- Result 5's one block is the whole array. -/
theorem emb_out11 (t : Fin cfg0.N) (y : Ix 112 5120) : ((cfg0.win 11).blk t).view.emb y = y := by
  obtain ⟨e0, e1⟩ := idx_out11 t
  refine funext fun a => Fin.ext ?_
  match a with
  | ⟨0, _⟩ => show win0_11.index t (0 : Fin 2) * 112 + 1 * (y 0).val = (y 0).val; omega
  | ⟨1, _⟩ => show win0_11.index t (1 : Fin 2) * 5120 + 1 * (y 1).val = (y 1).val; omega

/-- The scales of the second moment. -/
theorem whole_scaleV : ((dats m 0 d).arrAt 11 cfg0.N : Ix 112 5120 → EReal) = fScaleV (N := 14336) (n := 112) rfl (argG m d) (argVC m d) (argVS m d) := by
  have k := (Value.blocks11 m d ⟨0, one_point⟩ (flush_out11 _)).trans (flushed11_A m d ⟨0, one_point⟩)
  rw [out11, blk_in2, blk_in5, blk_in6, ref_scaleV _ _ _] at k
  generalize (fScaleV (N := 14336) (n := 112) rfl (argG m d) (argVC m d) (argVS m d) : _ → EReal) = A at k ⊢
  funext y
  have ky := congrFun k y
  rw [View.read_apply, emb_out11] at ky
  have e : (cfg0.win 11).cut (grid0.coords ⟨0, one_point⟩) A y = A y := by
    unfold Pipeline.Window.cut
    refine congrArg A (funext fun a => Fin.ext ?_)
    rfl
  exact (cast_eq _ _).symm.trans (ky.trans e)

end Cert.Adam.Ref

end
-- ==== Proof.InRange.lean ====
/-
  WHAT THE PRECONDITION SAYS.

  The predicate holds exactly when every parameter is finite and the step is at least 1. Here: that it gives the two.
-/
module

public import proofs.«01_k».proof.Pre_in_range
public import Idealize.ShloMosaic.Lib.ReduceAll
public import Idealize.ShloMosaic.Lib.Pointwise
public import Idealize.ShloMosaic.PureOps.Ideal.Laws

@[expose] public section

noncomputable section

open Idealize.ShloMosaic Cert.Pre_in_range Cert.Pre_in_range.Facts

namespace Cert.Adam

/-- An extended real of absolute value below infinity is a real. -/
theorem real_of_abs_lt (x : EReal) (h : Ideal.cmp .olt (max x (-x)) (Ideal.ofBits .f32 0x7F800000#32) = 1#1) : ∃ p : ℝ, x = (p : EReal) := by
  have ht : Ideal.ofBits .f32 0x7F800000#32 = ⊤ := by simp [Ideal.ofBits, Ideal.ieee]
  rw [ht] at h
  have h' : max x (-x) < ⊤ := by
    by_contra hn
    simp [Ideal.cmp, hn] at h
  rw [max_lt_iff] at h'
  induction x using EReal.rec with
  | bot => simp at h'
  | top => simp at h'
  | coe p => exact ⟨p, rfl⟩

variable [Cert.Pre_in_range.Facts]

theorem in_range (P : FVec Ideal S14336x5120 .f32) (G : FVec Ideal S14336x5120 .bf16) (MC : FVec Ideal S14336x5120 .fp8e4m3)
    (MS : FVec Ideal S112x5120 .f32) (VC : FVec Ideal S14336x5120 .fp8e5m2) (VS : FVec Ideal S112x5120 .f32) (T : IVec S_ 32) (j : S_.Idx)
    (h : fn (F := Ideal) P G MC MS VC VS T j = 1#1) : (∀ y, ∃ p : ℝ, P y = (p : EReal)) ∧ 1 ≤ (T j).toInt := by
  unfold fn at h
  obtain ⟨h1, h2⟩ := IntOp.andi_eq_one.1 (show IntOp.andi _ _ = 1#1 from h)
  haveI : Subsingleton S_.Idx := ⟨fun a b => funext fun x => x.elim0⟩
  refine ⟨fun y => real_of_abs_lt (P y) ?_, IntOp.cmpi_sge.1 h2⟩
  exact Host.reduce_andi_all _ _ _ _ j h1 y

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_in_range
public import proofs.«01_k».proof.Proof.Whole
public import proofs.«01_k».proof.Proof.RefWhole
public import proofs.«01_k».proof.Proof.InRange
public import Idealize.ShloMosaic.Adequacy
public import Idealize.ShloMosaic.Init

@[expose] public section

noncomputable section

namespace Cert.Proof

open Idealize.ShloMosaic Idealize.SL.Sem Cert.Kernel

/-- The kernel as printed runs, ends with unchanged arguments and with every counter at zero. -/
theorem frame_kernel : Cert.quiescent_Kernel (hKernel := Cert.Kernel.Gen.facts) := fun m g _ => Cert.Kernel.Gen.frame m g

/-- The idealized kernel runs, ends with unchanged arguments and with every counter at zero. -/
theorem frame_kernelIdeal : Cert.quiescent_KernelIdeal (hKernelIdeal := Cert.KernelIdeal.Gen.facts) :=
  fun m g _ => Cert.KernelIdeal.Gen.frame m g

/-- The idealized reference runs, ends with unchanged arguments and with every counter at zero. -/
theorem frame_referenceIdeal : Cert.quiescent_ReferenceIdeal (hReferenceIdeal := Cert.ReferenceIdeal.Gen.facts) :=
  fun m g _ => Cert.ReferenceIdeal.Gen.frame m g

/-- The one rewrite of the kernel's ideal pass: the float nearest to -1/100000 is named. -/
theorem preserves : Cert.preserves_Kernel_KernelIdeal :=
  IdealRules.named_const.statement Cert.KernelIdeal.κ "lr_wd" .f32 0xB727C5AC#32 ((-1 / 100000 : ℝ) : EReal) rfl

/-- The idealized kernel and the idealized reference leave the same five results: each is one formula of the arguments
    (`Adam.Whole`, `Adam.Ref`), and the two memories agree on the arguments. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c => Cert.KernelIdeal.Value.G7 m c, fun c => Cert.KernelIdeal.Value.G8 m c, fun c => Cert.KernelIdeal.Value.G9 m c,
    fun c => Cert.KernelIdeal.Value.G10 m c, fun c => Cert.KernelIdeal.Value.G11 m c, Cert.KernelIdeal.Value.run m g, ?_⟩
  refine θ_run_mono (Cert.ReferenceIdeal.Value.run_blocks m' g') fun r hr c => ?_
  obtain ⟨e0, e1, e2, e3, e4, rest⟩ := hr c
  obtain ⟨a0, a1, a2, a3, a4, a5, a6⟩ := hargs c
  letI := Cert.Pre_in_range.Gen.facts
  obtain ⟨hP, hT⟩ := Cert.Adam.in_range _ _ _ _ _ _ _ (fun a => a.elim0) (congrFun (hpre c) (fun a => a.elim0))
  have b0 : Cert.Adam.Ref.argP m' c = Cert.Adam.argP m c := a0
  have b1 : Cert.Adam.Ref.argG m' c = Cert.Adam.argG m c := a1
  have b2 : Cert.Adam.Ref.argMC m' c = Cert.Adam.argMC m c := a2
  have b3 : Cert.Adam.Ref.argMS m' c = Cert.Adam.argMS m c := a3
  have b4 : Cert.Adam.Ref.argVC m' c = Cert.Adam.argVC m c := a4
  have b5 : Cert.Adam.Ref.argVS m' c = Cert.Adam.argVS m c := a5
  have b6 : Cert.Adam.Ref.argT m' c = Cert.Adam.argT m c := congrFun a6 _
  refine ⟨e0.trans ?_, e1.trans ?_, e2.trans ?_, e3.trans ?_, e4.trans ?_, rest⟩
  · refine (Cert.Adam.Ref.whole_delta m' c (by rw [b6]; exact hT) (by rw [b0]; exact hP)).trans ?_
    rw [b0, b1, b2, b3, b4, b5, b6]
    exact (Cert.Adam.whole_delta m c).symm
  · refine (Cert.Adam.Ref.whole_codeM m' c).trans ?_
    rw [b1, b2, b3]
    exact (Cert.Adam.whole_codeM m c).symm
  · refine (Cert.Adam.Ref.whole_scaleM m' c).trans ?_
    rw [b1, b2, b3]
    exact (Cert.Adam.whole_scaleM m c).symm
  · refine (Cert.Adam.Ref.whole_codeV m' c).trans ?_
    rw [b1, b4, b5]
    exact (Cert.Adam.whole_codeV m c).symm
  · refine (Cert.Adam.Ref.whole_scaleV m' c).trans ?_
    rw [b1, b4, b5]
    exact (Cert.Adam.whole_scaleV m c).symm

theorem claim : Cert.Claim :=
  ⟨Cert.Kernel.Gen.facts, Cert.KernelIdeal.Gen.facts, Cert.ReferenceIdeal.Gen.facts, Cert.Pre_in_range.Gen.facts,
    frame_kernel, frame_kernelIdeal, fun m g _ => Cert.KernelIdeal.Gen.frame m g, frame_referenceIdeal,
    fun m g _ => Cert.ReferenceIdeal.Gen.frame m g, preserves, algebraic⟩

end Cert.Proof

end
